-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39_0) = v0 c
          ∧ r.2.mem ((c.tc : Thread Cert.ReferenceIdeal.nD Cert.ReferenceIdeal.τ).loc Cert.ReferenceIdeal.main_v39_1) = v1 c
          ∧ r.2.mem ((c.tc : Thread Cert.ReferenceIdeal.nD Cert.ReferenceIdeal.τ).loc Cert.ReferenceIdeal.main_v39_2) = v2 c
          ∧ r.2.mem ((c.tc : Thread Cert.ReferenceIdeal.nD Cert.ReferenceIdeal.τ).loc Cert.ReferenceIdeal.main_v39_3) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x32768x5120 : Shape := ⟨3, ![1, 32768, 5120]⟩
abbrev S1x32768x1280 : Shape := ⟨3, ![1, 32768, 1280]⟩
abbrev S1 : Shape := ⟨1, ![1]⟩
abbrev S1280x5120 : Shape := ⟨2, ![1280, 5120]⟩
abbrev S16 : Shape := ⟨1, ![16]⟩
abbrev S_ : Shape := ⟨0, ![]⟩
abbrev S255 : Shape := ⟨1, ![255]⟩
abbrev S32768x5120 : Shape := ⟨2, ![32768, 5120]⟩
abbrev S32768x1280 : Shape := ⟨2, ![32768, 1280]⟩
abbrev S512x5120 : Shape := ⟨2, ![512, 5120]⟩
abbrev S512x1280 : Shape := ⟨2, ![512, 1280]⟩
abbrev S1280x512 : Shape := ⟨2, ![1280, 512]⟩
abbrev S16x512 : Shape := ⟨2, ![16, 512]⟩
abbrev S512x512 : Shape := ⟨2, ![512, 512]⟩
abbrev S32x16x512 : Shape := ⟨3, ![32, 16, 512]⟩
abbrev S1x16x512 : Shape := ⟨3, ![1, 16, 512]⟩
abbrev S1x1x1 : Shape := ⟨3, ![1, 1, 1]⟩

abbrev nBuf : Space → Nat
  | .hbm => 72
  | .vmem => 12
  | .smem => 4
  | _ => 0

abbrev bufTy : (tb : Table) → Fin (tcTables nBuf tb) → BufTy
  | .hbm, ⟨0, _⟩ => ⟨S1x32768x5120, .bf16⟩
  | .hbm, ⟨1, _⟩ => ⟨S1x32768x1280, .fp8e4m3⟩
  | .hbm, ⟨2, _⟩ => ⟨S1, .f32⟩
  | .hbm, ⟨3, _⟩ => ⟨S1280x5120, .fp8e4m3⟩
  | .hbm, ⟨4, _⟩ => ⟨S1, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S255, .i32⟩
  | .hbm, ⟨11, _⟩ => ⟨S_, .i32⟩
  | .hbm, ⟨12, _⟩ => ⟨S255, .i32⟩
  | .hbm, ⟨13, _⟩ => ⟨S255, .i32⟩
  | .hbm, ⟨14, _⟩ => ⟨S_, .i32⟩
  | .hbm, ⟨15, _⟩ => ⟨S255, .i32⟩
  | .hbm, ⟨16, _⟩ => ⟨S255, .i32⟩
  | .hbm, ⟨17, _⟩ => ⟨S255, .f32⟩
  | .hbm, ⟨18, _⟩ => ⟨S_, .f32⟩
  | .hbm, ⟨19, _⟩ => ⟨S255, .f32⟩
  | .hbm, ⟨20, _⟩ => ⟨S255, .i1⟩
  | .hbm, ⟨21, _⟩ => ⟨S255, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i1⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S1, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S1, .f32⟩
  | .hbm, ⟨64, _⟩ => ⟨S1, .f32⟩
  | .hbm, ⟨65, _⟩ => ⟨S1, .f32⟩
  | .hbm, ⟨66, _⟩ => ⟨S32768x5120, .bf16⟩
  | .hbm, ⟨67, _⟩ => ⟨S32768x1280, .fp8e4m3⟩
  | .hbm, ⟨68, _⟩ => ⟨S32768x1280, .bf16⟩
  | .hbm, ⟨69, _⟩ => ⟨S1280x5120, .f32⟩
  | .hbm, ⟨70, _⟩ => ⟨S1, .f32⟩
  | .hbm, ⟨71, _⟩ => ⟨S32768x5120, .fp8e4m3⟩
  | .local _ .vmem, ⟨0, _⟩ => ⟨S512x5120, .bf16⟩
  | .local _ .vmem, ⟨1, _⟩ => ⟨S512x5120, .bf16⟩
  | .local _ .vmem, ⟨2, _⟩ => ⟨S512x1280, .fp8e4m3⟩
  | .local _ .vmem, ⟨3, _⟩ => ⟨S512x1280, .fp8e4m3⟩
  | .local _ .vmem, ⟨4, _⟩ => ⟨S1280x5120, .fp8e4m3⟩
  | .local _ .vmem, ⟨5, _⟩ => ⟨S512x1280, .bf16⟩
  | .local _ .vmem, ⟨6, _⟩ => ⟨S512x1280, .bf16⟩
  | .local _ .vmem, ⟨7, _⟩ => ⟨S512x5120, .fp8e4m3⟩
  | .local _ .vmem, ⟨8, _⟩ => ⟨S512x5120, .fp8e4m3⟩
  | .local _ .vmem, ⟨9, _⟩ => ⟨S1280x5120, .f32⟩
  | .local _ .vmem, ⟨10, _⟩ => ⟨S1280x512, .fp8e4m3⟩
  | .local _ .vmem, ⟨11, _⟩ => ⟨S16x512, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1x32768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_c_6 : Ref sig .tc := ⟨.hbm, 31, rfl⟩
abbrev main_call0_v0 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_c_8 : Ref sig .tc := ⟨.hbm, 36, rfl⟩
abbrev main_call1_v0 : Ref sig .tc := ⟨.hbm, 37, rfl⟩
abbrev main_v19 : Ref sig .tc := ⟨.hbm, 38, rfl⟩
abbrev main_v20 : Ref sig .tc := ⟨.hbm, 39, rfl⟩
abbrev main_c_9 : Ref sig .tc := ⟨.hbm, 40, rfl⟩
abbrev main_v21 : Ref sig .tc := ⟨.hbm, 41, rfl⟩
abbrev main_c_10 : Ref sig .tc := ⟨.hbm, 42, rfl⟩
abbrev main_c_11 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v22 : Ref sig .tc := ⟨.hbm, 47, rfl⟩
abbrev main_c_12 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_13 : Ref sig .tc := ⟨.hbm, 52, rfl⟩
abbrev main_v26 : Ref sig .tc := ⟨.hbm, 53, rfl⟩
abbrev main_c_14 : Ref sig .tc := ⟨.hbm, 54, rfl⟩
abbrev main_c_15 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v27 : Ref sig .tc := ⟨.hbm, 59, rfl⟩
abbrev main_c_16 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35_0 : Ref sig .tc := ⟨.hbm, 68, rfl⟩
abbrev main_v35_1 : Ref sig .tc := ⟨.hbm, 69, rfl⟩
abbrev main_v35_2 : Ref sig .tc := ⟨.hbm, 70, rfl⟩
abbrev main_v35_3 : Ref sig .tc := ⟨.hbm, 71, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg8_0 : Ref sig .tc := ⟨.vmem, 7, rfl⟩
abbrev cc0_stg8_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v310 : BitVec 1 := Scalar.cmpi .eq arg0 c63_i32
  let v311 : BitVec 32 := Scalar.extui v310
  let c0_i32_203 : BitVec 32 := 0#32
  let v312 : BitVec 1 := Scalar.cmpi .ne v311 c0_i32_203
  v312

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x32768x5120 : Shape := ⟨3, ![1, 32768, 5120]⟩
abbrev S1x32768x1280 : Shape := ⟨3, ![1, 32768, 1280]⟩
abbrev S1 : Shape := ⟨1, ![1]⟩
abbrev S1280x5120 : Shape := ⟨2, ![1280, 5120]⟩
abbrev S16 : Shape := ⟨1, ![16]⟩
abbrev S_ : Shape := ⟨0, ![]⟩
abbrev S254 : Shape := ⟨1, ![254]⟩
abbrev S32768x5120 : Shape := ⟨2, ![32768, 5120]⟩
abbrev S32768x1280 : Shape := ⟨2, ![32768, 1280]⟩
abbrev S1x1x1 : Shape := ⟨3, ![1, 1, 1]⟩

abbrev nBuf : Space → Nat
  | .hbm => 79
  | .vmem => 6
  | .smem => 5
  | _ => 0

abbrev bufTy : (tb : Table) → Fin (tcTables nBuf tb) → BufTy
  | .hbm, ⟨0, _⟩ => ⟨S1x32768x5120, .bf16⟩
  | .hbm, ⟨1, _⟩ => ⟨S1x32768x1280, .fp8e4m3⟩
  | .hbm, ⟨2, _⟩ => ⟨S1, .f32⟩
  | .hbm, ⟨3, _⟩ => ⟨S1280x5120, .fp8e4m3⟩
  | .hbm, ⟨4, _⟩ => ⟨S1, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S254, .f32⟩
  | .hbm, ⟨15, _⟩ => ⟨S_, .f32⟩
  | .hbm, ⟨16, _⟩ => ⟨S254, .f32⟩
  | .hbm, ⟨17, _⟩ => ⟨S254, .f32⟩
  | .hbm, ⟨18, _⟩ => ⟨S_, .f32⟩
  | .hbm, ⟨19, _⟩ => ⟨S254, .f32⟩
  | .hbm, ⟨20, _⟩ => ⟨S254, .i1⟩
  | .hbm, ⟨21, _⟩ => ⟨S_, .i32⟩
  | .hbm, ⟨22, _⟩ => ⟨S_, .i32⟩
  | .hbm, ⟨23, _⟩ => ⟨S254, .i32⟩
  | .hbm, ⟨24, _⟩ => ⟨S254, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1, .f32⟩
  | .hbm, ⟨73, _⟩ => ⟨S32768x5120, .bf16⟩
  | .hbm, ⟨74, _⟩ => ⟨S32768x1280, .fp8e4m3⟩
  | .hbm, ⟨75, _⟩ => ⟨S32768x1280, .bf16⟩
  | .hbm, ⟨76, _⟩ => ⟨S1280x5120, .f32⟩
  | .hbm, ⟨77, _⟩ => ⟨S1, .f32⟩
  | .hbm, ⟨78, _⟩ => ⟨S32768x5120, .fp8e4m3⟩
  | .local _ .vmem, ⟨0, _⟩ => ⟨S32768x5120, .bf16⟩
  | .local _ .vmem, ⟨1, _⟩ => ⟨S32768x1280, .fp8e4m3⟩
  | .local _ .vmem, ⟨2, _⟩ => ⟨S1280x5120, .fp8e4m3⟩
  | .local _ .vmem, ⟨3, _⟩ => ⟨S32768x1280, .bf16⟩
  | .local _ .vmem, ⟨4, _⟩ => ⟨S1280x5120, .f32⟩
  | .local _ .vmem, ⟨5, _⟩ => ⟨S32768x5120, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S1x32768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_c_7 : Ref sig .tc := ⟨.hbm, 36, rfl⟩
abbrev main_call1_v0 : Ref sig .tc := ⟨.hbm, 37, rfl⟩
abbrev main_v19 : Ref sig .tc := ⟨.hbm, 38, rfl⟩
abbrev main_cst_8 : Ref sig .tc := ⟨.hbm, 39, rfl⟩
abbrev main_v20 : Ref sig .tc := ⟨.hbm, 40, rfl⟩
abbrev main_c_9 : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_10 : Ref sig .tc := ⟨.hbm, 46, rfl⟩
abbrev main_v24 : Ref sig .tc := ⟨.hbm, 47, rfl⟩
abbrev main_c_11 : Ref sig .tc := ⟨.hbm, 48, rfl⟩
abbrev main_v25 : Ref sig .tc := ⟨.hbm, 49, rfl⟩
abbrev main_c_12 : Ref sig .tc := ⟨.hbm, 50, rfl⟩
abbrev main_v26 : Ref sig .tc := ⟨.hbm, 51, rfl⟩
abbrev main_cst_13 : Ref sig .tc := ⟨.hbm, 52, rfl⟩
abbrev main_call3_v0 : Ref sig .tc := ⟨.hbm, 53, rfl⟩
abbrev main_v27 : Ref sig .tc := ⟨.hbm, 54, rfl⟩
abbrev main_cst_14 : Ref sig .tc := ⟨.hbm, 55, rfl⟩
abbrev main_call4_v0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_15 : Ref sig .tc := ⟨.hbm, 60, rfl⟩
abbrev main_v31 : Ref sig .tc := ⟨.hbm, 61, rfl⟩
abbrev main_c_16 : Ref sig .tc := ⟨.hbm, 62, rfl⟩
abbrev main_v32 : Ref sig .tc := ⟨.hbm, 63, rfl⟩
abbrev main_c_17 : Ref sig .tc := ⟨.hbm, 64, rfl⟩
abbrev main_v33 : Ref sig .tc := ⟨.hbm, 65, rfl⟩
abbrev main_cst_18 : Ref sig .tc := ⟨.hbm, 66, rfl⟩
abbrev main_call5_v0 : Ref sig .tc := ⟨.hbm, 67, rfl⟩
abbrev main_v34 : Ref sig .tc := ⟨.hbm, 68, rfl⟩
abbrev main_cst_19 : Ref sig .tc := ⟨.hbm, 69, rfl⟩
abbrev main_call6_v0 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39_0 : Ref sig .tc := ⟨.hbm, 75, rfl⟩
abbrev main_v39_1 : Ref sig .tc := ⟨.hbm, 76, rfl⟩
abbrev main_v39_2 : Ref sig .tc := ⟨.hbm, 77, rfl⟩
abbrev main_v39_3 : Ref sig .tc := ⟨.hbm, 78, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg10_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg9_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x1280 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32768x5120 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelFrame.lean ====
/- The frame of the program `Kernel` (the kernel, for its machine-number reading), with every buffer held BY VALUE: what the
   outputs' staging buffers, the scratch the kernel carries between grid points (the dw accumulator `arg11`, the running
   maximum `arg13`) and the dw result left in HBM hold after each point (`Gen.outsAt0`), the body's obligation at every
   point, the launch and the frame. The text is the frame kit's for this program, with one step of `hout` (the invariant
   after the last point) rewritten by a lemma of its own (`Phi_eq`) where unfolding the proof data at the last point does
   not end. Each case's whole-body run and what the runs share are the generated modules Gen/Kernel/Frame/. -/
module

public import proofs.«01_k».proof.Proof.Gen.Kernel.Frame.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 6 tile its block (1 store of `S512x1280`, checked by the kernel's evaluation: Lib/Ring.lean `Piece.tiledL`, linear in the pieces, through a loop's `@[irreducible]` trip theorem too), so they cover it. -/
theorem cover0_A_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) (y : S512x1280.Idx) :
    ∃ pc ∈ (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).1, y ∈ pc.1.set :=
  View.cover_of_tiledL (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).1 S512x1280.size (by sl_kernel_rfl) y

/-- What case A leaves in output 6's staging buffer: its pieces read back over junk. -/
def out0_A_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S512x1280 .bf16 :=
  VO0_6.read (Elt F) (VO0_6.writes (Elt F) VO0_6.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S1 .f32 :=
  VO0_7.read (Elt F) (VO0_7.writes (Elt F) VO0_7.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.1)

/-- Case A's pieces for output 8 tile its block (10 stores of `S512x512`, checked by the kernel's evaluation: Lib/Ring.lean `Piece.tiledL`, linear in the pieces, through a loop's `@[irreducible]` trip theorem too), so they cover it. -/
theorem cover0_A_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) (y : S512x5120.Idx) :
    ∃ pc ∈ (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.1, y ∈ pc.1.set :=
  View.cover_of_tiledL (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.1 S512x512.size (by sl_kernel_rfl) y

/-- What case A leaves in output 8's staging buffer: its pieces read back over junk. -/
def out0_A_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S512x5120 .fp8e4m3 :=
  VO0_8.read (Elt F) (VO0_8.writes (Elt F) VO0_8.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.1)

/-- Case A's pieces for scratch `arg11`, which the kernel carries between points, cover it: one of them a store of the WHOLE buffer (Lib/Ring.lean `sl_whole_mem`). -/
theorem scover0_A_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) (y : S1280x5120.Idx) :
    ∃ pc ∈ (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.1, y ∈ pc.1.set :=
  View.cover_of_wholeMem (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.1 (by sl_whole_mem) y

/-- What case A leaves in scratch `arg11`: its pieces read back over junk. -/
def sout0_A_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S1280x5120 .f32 :=
  VS0_0.read (Elt F) (VS0_0.writes (Elt F) VS0_0.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.1)

/-- Case A's pieces for scratch `arg13`, which the kernel carries between points, cover it: 11 pieces of `S16x512` tiling it (Lib/Ring.lean `Piece.tiledL`). -/
theorem scover0_A_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) (y : S16x512.Idx) :
    ∃ pc ∈ (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.2.1, y ∈ pc.1.set :=
  View.cover_of_tiledL (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.2.1 S16x512.size (by sl_kernel_rfl) y

/-- What case A leaves in scratch `arg13`: its pieces read back over junk. -/
def sout0_A_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S16x512 .bf16 :=
  VS0_2.read (Elt F) (VS0_2.writes (Elt F) VS0_2.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.2.1)

/-- Case A copies nothing into `main_v35_1`: it holds the contents it started from (`fw0`), as the run
    hands them back. -/
def hbw0_A_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : HbBuf0 (F := F) c hbM0_0 := (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.2.2.2.1

/-- Case B's pieces for output 6 tile its block (1 store of `S512x1280`, checked by the kernel's evaluation: Lib/Ring.lean `Piece.tiledL`, linear in the pieces, through a loop's `@[irreducible]` trip theorem too), so they cover it. -/
theorem cover0_B_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S512x1280.Idx) :
    ∃ pc ∈ (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1, y ∈ pc.1.set :=
  View.cover_of_tiledL (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1 S512x1280.size (by sl_kernel_rfl) y

/-- What case B leaves in output 6's staging buffer: its pieces read back over junk. -/
def out0_B_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S512x1280 .bf16 :=
  VO0_6.read (Elt F) (VO0_6.writes (Elt F) VO0_6.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S1 .f32 :=
  VO0_7.read (Elt F) (VO0_7.writes (Elt F) VO0_7.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.1)

/-- Case B's pieces for output 8 tile its block (10 stores of `S512x512`, checked by the kernel's evaluation: Lib/Ring.lean `Piece.tiledL`, linear in the pieces, through a loop's `@[irreducible]` trip theorem too), so they cover it. -/
theorem cover0_B_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S512x5120.Idx) :
    ∃ pc ∈ (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1, y ∈ pc.1.set :=
  View.cover_of_tiledL (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1 S512x512.size (by sl_kernel_rfl) y

/-- What case B leaves in output 8's staging buffer: its pieces read back over junk. -/
def out0_B_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S512x5120 .fp8e4m3 :=
  VO0_8.read (Elt F) (VO0_8.writes (Elt F) VO0_8.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1)

/-- Case B's pieces for scratch `arg11`, which the kernel carries between points, cover it: 10 pieces of `S1280x512` tiling it (Lib/Ring.lean `Piece.tiledL`). -/
theorem scover0_B_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S1280x5120.Idx) :
    ∃ pc ∈ (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1, y ∈ pc.1.set :=
  View.cover_of_tiledL (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1 S1280x512.size (by sl_kernel_rfl) y

/-- What case B leaves in scratch `arg11`: its pieces read back over junk. -/
def sout0_B_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S1280x5120 .f32 :=
  VS0_0.read (Elt F) (VS0_0.writes (Elt F) VS0_0.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1)

/-- Case B's pieces for scratch `arg13`, which the kernel carries between points, cover it: 10 pieces of `S16x512` tiling it (Lib/Ring.lean `Piece.tiledL`). -/
theorem scover0_B_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S16x512.Idx) :
    ∃ pc ∈ (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1, y ∈ pc.1.set :=
  View.cover_of_tiledL (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1 S16x512.size (by sl_kernel_rfl) y

/-- What case B leaves in scratch `arg13`: its pieces read back over junk. -/
def sout0_B_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S16x512 .bf16 :=
  VS0_2.read (Elt F) (VS0_2.writes (Elt F) VS0_2.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1)

/-- Case B copies nothing into `main_v35_1`: it holds the contents it started from (`fw0`), as the run
    hands them back. -/
def hbw0_B_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : HbBuf0 (F := F) c hbM0_0 := (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.2.2.1

/-- Case C's pieces for output 6 tile its block (1 store of `S512x1280`, checked by the kernel's evaluation: Lib/Ring.lean `Piece.tiledL`, linear in the pieces, through a loop's `@[irreducible]` trip theorem too), so they cover it. -/
theorem cover0_C_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S512x1280.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1, y ∈ pc.1.set :=
  View.cover_of_tiledL (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1 S512x1280.size (by sl_kernel_rfl) y

/-- What case C leaves in output 6's staging buffer: its pieces read back over junk. -/
def out0_C_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S512x1280 .bf16 :=
  VO0_6.read (Elt F) (VO0_6.writes (Elt F) VO0_6.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1)

/-- Case C's pieces for output 7 tile its block (1 store of `S1`, checked by the kernel's evaluation: Lib/Ring.lean `Piece.tiledL`, linear in the pieces, through a loop's `@[irreducible]` trip theorem too), so they cover it. -/
theorem cover0_C_7 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S1.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.1, y ∈ pc.1.set :=
  View.cover_of_tiledL (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.1 S1.size (by sl_kernel_rfl) y

/-- What case C leaves in output 7's staging buffer: its pieces read back over junk. -/
def out0_C_7 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S1 .f32 :=
  VO0_7.read (Elt F) (VO0_7.writes (Elt F) VO0_7.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.1)

/-- Case C's pieces for output 8 tile its block (10 stores of `S512x512`, checked by the kernel's evaluation: Lib/Ring.lean `Piece.tiledL`, linear in the pieces, through a loop's `@[irreducible]` trip theorem too), so they cover it. -/
theorem cover0_C_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S512x5120.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1, y ∈ pc.1.set :=
  View.cover_of_tiledL (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1 S512x512.size (by sl_kernel_rfl) y

/-- What case C leaves in output 8's staging buffer: its pieces read back over junk. -/
def out0_C_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S512x5120 .fp8e4m3 :=
  VO0_8.read (Elt F) (VO0_8.writes (Elt F) VO0_8.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1)

/-- Case C's pieces for scratch `arg11`, which the kernel carries between points, cover it: one of them a store of the WHOLE buffer (Lib/Ring.lean `sl_whole_mem`). -/
theorem scover0_C_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S1280x5120.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1, y ∈ pc.1.set :=
  View.cover_of_wholeMem (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1 (by sl_whole_mem) y

/-- What case C leaves in scratch `arg11`: its pieces read back over junk. -/
def sout0_C_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S1280x5120 .f32 :=
  VS0_0.read (Elt F) (VS0_0.writes (Elt F) VS0_0.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1)

/-- Case C's pieces for scratch `arg13`, which the kernel carries between points, cover it: 10 pieces of `S16x512` tiling it (Lib/Ring.lean `Piece.tiledL`). -/
theorem scover0_C_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S16x512.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1, y ∈ pc.1.set :=
  View.cover_of_tiledL (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1 S16x512.size (by sl_kernel_rfl) y

/-- What case C leaves in scratch `arg13`: its pieces read back over junk. -/
def sout0_C_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S16x512 .bf16 :=
  VS0_2.read (Elt F) (VS0_2.writes (Elt F) VS0_2.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1)

/-- What case C leaves in `main_v35_1`, the result left in HBM its copies out of scratch write: the contents
    it started from (`fw0`: what the point before left there, at the first point the launch's) with those copies written over
    them — the contents term the run finds, its witness. -/
def hbw0_C_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : HbBuf0 (F := F) c hbM0_0 := (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.2.2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1280 .bf16 × Vec F S1 .f32 × Vec F S512x5120 .fp8e4m3 × Vec F S1280x5120 .f32 × Vec F S16x512 .bf16 × HbBuf0 (F := F) c hbM0_0
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), hbw0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1))
  | n + 1, hn =>
    if h0 : (n + 1) % 64 = 0 then
      if h1 : (n + 1) % 64 = 63 then
        False.elim (by have hN : n + 1 < 64 := lt_of_lt_of_eq hn (show cfg0.N = 64 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), hbw0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1))
    else
      if h1 : (n + 1) % 64 = 63 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, hbw0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, hbw0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 64 = 0) (h1 : ¬t.val % 64 = 63) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), hbw0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, hbw0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, hbw0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.2.1) ∗ (∃ d, owns (c : Thread nD τ) scM0_1 fullShare d) ∗ owns (c : Thread nD τ) scM0_2 fullShare ((outsAt0 m c n hn).2.2.2.2.1)) ∗ (∃ r, prngReg c r) ∗ iprop(semVal ((c : Thread nD τ), SemLoc.dma 13) 0) ∗ iprop(emp) ∗ iprop(hbPt0 c hbM0_0 ((outsAt0 m c n hn).2.2.2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ (∃ d, owns (c : Thread nD τ) scM0_1 fullShare d) ∗ owns (c : Thread nD τ) scM0_2 fullShare ((outsAt0 m c n hn).2.2.2.2.1)) ∗ (∃ r, prngReg c r) ∗ iprop(semVal ((c : Thread nD τ), SemLoc.dma 13) 0) ∗ iprop(emp) ∗ iprop(hbPt0 c hbM0_0 ((outsAt0 m c n hn).2.2.2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ (∃ d, owns (c : Thread nD τ) scM0_1 fullShare d) ∗ owns (c : Thread nD τ) scM0_2 fullShare ((outsAt0 m c (n - 1) (by omega)).2.2.2.2.1)) ∗ (∃ r, prngReg c r) ∗ iprop(semVal ((c : Thread nD τ), SemLoc.dma 13) 0) ∗ iprop(emp) ∗ iprop(hbPt0 c hbM0_0 ((outsAt0 m c (n - 1) (by omega)).2.2.2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 64 := lt_of_lt_of_eq t.isLt (show cfg0.N = 64 from N_0)
  by_cases h0 : t.val % 64 = 0
  · by_cases h1 : t.val % 64 = 63
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [show (dats m 0 c).leavesExact 8 t = owns (c : Thread nD τ) (ms0_8 t) fullShare ((dats m 0 c).after 8 t) from by
      unfold Dat.leavesExact; rw [liveAt0_8 t], after0_8]
      by_cases hz : t.val = 0
      · rw [PhiS_castSucc m c t, PhiS_zero m c _ _ hz, PhiDRG0_in_eq]
        rw [outsAt0_A m c t h0 h1]
        unfold out0_A_6 out0_A_8 sout0_A_0 sout0_A_2 hbw0_A_0; (try dsimp only)
        iintro ⟨⟨⟨HS0, HS1, HS2⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) _).2.2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexists _; iexact H8
        isplitl [HS0]; · iexact HS0
        isplitl [HS1]; · iexact HS1
        isplitl [HS2]; · iexact HS2
        isplitl [Hq0]; · iexact Hq0
        isplitl [Hh0]; · iexact Hh0
        isplitl [HW]; · iexact HW
        iintro ⟨H0, H1, H2, H3, H4, H5, ⟨%e6, H6⟩, H7, ⟨%e8, H8⟩, ⟨%es0, HS0⟩, ⟨%fT1, HS1⟩, ⟨%es2, HS2⟩, Hq0, Hh0, ⟨%W', HW'⟩⟩
        isplitl [HS0 HS1 HS2 Hg Hq0 Hh0]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _)
        isplitl [H7]; · iexists _; iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      · exfalso; have hN : t.val < 64 := lt_of_lt_of_eq t.isLt (show cfg0.N = 64 from N_0); omega
  · by_cases h1 : t.val % 64 = 63
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8 t], after0_8]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_6 out0_C_7 out0_C_8 sout0_C_0 sout0_C_2 hbw0_C_0; (try dsimp only)
        iintro ⟨⟨⟨HS0, HS1, HS2⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        isplitl [Hq0]; · iexact Hq0
        isplitl [Hh0]; · iexact Hh0
        isplitl [HW]; · iexact HW
        iintro ⟨H0, H1, H2, H3, H4, H5, ⟨%e6, H6⟩, ⟨%e7, H7⟩, ⟨%e8, H8⟩, ⟨%es0, HS0⟩, ⟨%fT1, HS1⟩, ⟨%es2, HS2⟩, Hq0, Hh0, ⟨%W', HW'⟩⟩
        isplitl [HS0 HS1 HS2 Hg Hq0 Hh0]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [show (dats m 0 c).leavesExact 8 t = owns (c : Thread nD τ) (ms0_8 t) fullShare ((dats m 0 c).after 8 t) from by
      unfold Dat.leavesExact; rw [liveAt0_8 t], after0_8]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_6 out0_B_8 sout0_B_0 sout0_B_2 hbw0_B_0; (try dsimp only)
        iintro ⟨⟨⟨HS0, HS1, HS2⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexists _; iexact H8
        isplitl [HS0]; · iexact HS0
        isplitl [HS1]; · iexact HS1
        isplitl [HS2]; · iexact HS2
        isplitl [Hq0]; · iexact Hq0
        isplitl [Hh0]; · iexact Hh0
        isplitl [HW]; · iexact HW
        iintro ⟨H0, H1, H2, H3, H4, H5, ⟨%e6, H6⟩, H7, ⟨%e8, H8⟩, ⟨%es0, HS0⟩, ⟨%fT1, HS1⟩, ⟨%es2, HS2⟩, Hq0, Hh0, ⟨%W', HW'⟩⟩
        isplitl [HS0 HS1 HS2 Hg Hq0 Hh0]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _)
        isplitl [H7]; · iexists _; iexact H7
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v35_1 (outsAt0 m c ((Fin.last cfg0.N).val - 1) (by rw [Fin.val_last]; have : cfg0.N = 64 := N_0; omega)).2.2.2.2.2
/-- `hbG0` at `main_v35_1`: `outsAt0`'s component. -/
theorem hbG0_0 (c : Dev nD) : hbG0 m c main_v35_1 = (outsAt0 m c ((Fin.last cfg0.N).val - 1) (by rw [Fin.val_last]; have : cfg0.N = 64 := N_0; omega)).2.2.2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_0 ((outsAt0 m c ((Fin.last cfg0.N).val - 1) (by rw [Fin.val_last]; have : cfg0.N = 64 := N_0; omega)).2.2.2.2.2)) := by
  unfold Pipeline.routed; rw [BI.bigSep_eq_bigSepL_of_eq [main_v35_1] (by decide) (by decide)]
  simp only [BI.bigSepL_singleton, hbG0_0]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 13) 0) ∗ iprop(emp) ∗ iprop(hbPt0 c hbM0_0 ((outsAt0 m c ((Fin.last cfg0.N).val - 1) (by rw [Fin.val_last]; have : cfg0.N = 64 := N_0; omega)).2.2.2.2.2))) := by
  rw [Pipeline.ΦDRG_eq, scopedRest0_eq, ownSems00_eq, hbmPts0_eq, heldG0_eq]; simp only [scM0_0, scM0_1, scM0_2, owns_whole]; try rfl

/-- The proof data's invariant at any position is `PhiS` there. -/
theorem Phi_eq (c : Dev nD) (k : Fin (cfg0.N + 1)) :
    (dats m 0 c).Φ k = PhiS m c k.val (Nat.le_of_lt_succ k.isLt) := rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [Phi_eq m c (Fin.last cfg0.N),
    PhiS_pos m c _ _ (by rw [Fin.val_last]; have : cfg0.N = 64 := N_0; omega), PhiDRG0_out_eq]
  iintro ⟨⟨HS0, HS1, HS2⟩, Hg, Hq0, Hh0⟩
  isplitl [HS0 HS1 HS2]
  · isplitl [HS0]
    · iexists _; iexact HS0
    isplitl [HS1]
    · iexact HS1
    iexists _; iexact HS2
  isplitl [Hg]; · iexact Hg
  isplitl [Hq0]
  · iexact Hq0
  iexact Hh0

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.toR) (run_main m ρ))

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.IdealFrame.lean ====
/- The frame of the program `KernelIdeal` (the kernel, for its extended-real reading), with every buffer held BY VALUE: what the
   outputs' staging buffers, the scratch the kernel carries between grid points (the dw accumulator `arg11`, the running
   maximum `arg13`) and the dw result left in HBM hold after each point (`Gen.outsAt0`), the body's obligation at every
   point, the launch and the frame. The text is the frame kit's for this program, with one step of `hout` (the invariant
   after the last point) rewritten by a lemma of its own (`Phi_eq`) where unfolding the proof data at the last point does
   not end. Each case's whole-body run and what the runs share are the generated modules Gen/KernelIdeal/Frame/. -/
module

public import proofs.«01_k».proof.Proof.Gen.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 6 tile its block (1 store of `S512x1280`, checked by the kernel's evaluation: Lib/Ring.lean `Piece.tiledL`, linear in the pieces, through a loop's `@[irreducible]` trip theorem too), so they cover it. -/
theorem cover0_A_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) (y : S512x1280.Idx) :
    ∃ pc ∈ (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).1, y ∈ pc.1.set :=
  View.cover_of_tiledL (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).1 S512x1280.size (by sl_kernel_rfl) y

/-- What case A leaves in output 6's staging buffer: its pieces read back over junk. -/
def out0_A_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S512x1280 .bf16 :=
  VO0_6.read (Elt F) (VO0_6.writes (Elt F) VO0_6.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S1 .f32 :=
  VO0_7.read (Elt F) (VO0_7.writes (Elt F) VO0_7.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.1)

/-- Case A's pieces for output 8 tile its block (10 stores of `S512x512`, checked by the kernel's evaluation: Lib/Ring.lean `Piece.tiledL`, linear in the pieces, through a loop's `@[irreducible]` trip theorem too), so they cover it. -/
theorem cover0_A_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) (y : S512x5120.Idx) :
    ∃ pc ∈ (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.1, y ∈ pc.1.set :=
  View.cover_of_tiledL (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.1 S512x512.size (by sl_kernel_rfl) y

/-- What case A leaves in output 8's staging buffer: its pieces read back over junk. -/
def out0_A_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S512x5120 .fp8e4m3 :=
  VO0_8.read (Elt F) (VO0_8.writes (Elt F) VO0_8.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.1)

/-- Case A's pieces for scratch `arg11`, which the kernel carries between points, cover it: one of them a store of the WHOLE buffer (Lib/Ring.lean `sl_whole_mem`). -/
theorem scover0_A_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) (y : S1280x5120.Idx) :
    ∃ pc ∈ (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.1, y ∈ pc.1.set :=
  View.cover_of_wholeMem (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.1 (by sl_whole_mem) y

/-- What case A leaves in scratch `arg11`: its pieces read back over junk. -/
def sout0_A_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S1280x5120 .f32 :=
  VS0_0.read (Elt F) (VS0_0.writes (Elt F) VS0_0.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.1)

/-- Case A's pieces for scratch `arg13`, which the kernel carries between points, cover it: 11 pieces of `S16x512` tiling it (Lib/Ring.lean `Piece.tiledL`). -/
theorem scover0_A_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) (y : S16x512.Idx) :
    ∃ pc ∈ (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.2.1, y ∈ pc.1.set :=
  View.cover_of_tiledL (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.2.1 S16x512.size (by sl_kernel_rfl) y

/-- What case A leaves in scratch `arg13`: its pieces read back over junk. -/
def sout0_A_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : Vec F S16x512 .bf16 :=
  VS0_2.read (Elt F) (VS0_2.writes (Elt F) VS0_2.junk (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.2.1)

/-- Case A copies nothing into `main_v35_1`: it holds the contents it started from (`fw0`), as the run
    hands them back. -/
def hbw0_A_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (fw0 : HbBuf0 (F := F) c hbM0_0) : HbBuf0 (F := F) c hbM0_0 := (kernelRun0_A c i arg1 harg1 arg2 harg2 arg3 harg3 arg4 harg4 arg5 harg5 arg6 harg6 arg7 harg7 arg9 harg9 arg10 harg10 arg11 harg11 arg12 harg12 arg13 harg13 hc0 hc1 x0 x1 x2 x3 x4 x5 fw0).2.2.2.2.2.2.1

/-- Case B's pieces for output 6 tile its block (1 store of `S512x1280`, checked by the kernel's evaluation: Lib/Ring.lean `Piece.tiledL`, linear in the pieces, through a loop's `@[irreducible]` trip theorem too), so they cover it. -/
theorem cover0_B_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S512x1280.Idx) :
    ∃ pc ∈ (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1, y ∈ pc.1.set :=
  View.cover_of_tiledL (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1 S512x1280.size (by sl_kernel_rfl) y

/-- What case B leaves in output 6's staging buffer: its pieces read back over junk. -/
def out0_B_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S512x1280 .bf16 :=
  VO0_6.read (Elt F) (VO0_6.writes (Elt F) VO0_6.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S1 .f32 :=
  VO0_7.read (Elt F) (VO0_7.writes (Elt F) VO0_7.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.1)

/-- Case B's pieces for output 8 tile its block (10 stores of `S512x512`, checked by the kernel's evaluation: Lib/Ring.lean `Piece.tiledL`, linear in the pieces, through a loop's `@[irreducible]` trip theorem too), so they cover it. -/
theorem cover0_B_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S512x5120.Idx) :
    ∃ pc ∈ (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1, y ∈ pc.1.set :=
  View.cover_of_tiledL (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1 S512x512.size (by sl_kernel_rfl) y

/-- What case B leaves in output 8's staging buffer: its pieces read back over junk. -/
def out0_B_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S512x5120 .fp8e4m3 :=
  VO0_8.read (Elt F) (VO0_8.writes (Elt F) VO0_8.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1)

/-- Case B's pieces for scratch `arg11`, which the kernel carries between points, cover it: 10 pieces of `S1280x512` tiling it (Lib/Ring.lean `Piece.tiledL`). -/
theorem scover0_B_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S1280x5120.Idx) :
    ∃ pc ∈ (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1, y ∈ pc.1.set :=
  View.cover_of_tiledL (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1 S1280x512.size (by sl_kernel_rfl) y

/-- What case B leaves in scratch `arg11`: its pieces read back over junk. -/
def sout0_B_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S1280x5120 .f32 :=
  VS0_0.read (Elt F) (VS0_0.writes (Elt F) VS0_0.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1)

/-- Case B's pieces for scratch `arg13`, which the kernel carries between points, cover it: 10 pieces of `S16x512` tiling it (Lib/Ring.lean `Piece.tiledL`). -/
theorem scover0_B_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S16x512.Idx) :
    ∃ pc ∈ (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1, y ∈ pc.1.set :=
  View.cover_of_tiledL (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1 S16x512.size (by sl_kernel_rfl) y

/-- What case B leaves in scratch `arg13`: its pieces read back over junk. -/
def sout0_B_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S16x512 .bf16 :=
  VS0_2.read (Elt F) (VS0_2.writes (Elt F) VS0_2.junk (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1)

/-- Case B copies nothing into `main_v35_1`: it holds the contents it started from (`fw0`), as the run
    hands them back. -/
def hbw0_B_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : ¬cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : HbBuf0 (F := F) c hbM0_0 := (kernelRun0_B c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.2.2.1

/-- Case C's pieces for output 6 tile its block (1 store of `S512x1280`, checked by the kernel's evaluation: Lib/Ring.lean `Piece.tiledL`, linear in the pieces, through a loop's `@[irreducible]` trip theorem too), so they cover it. -/
theorem cover0_C_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S512x1280.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1, y ∈ pc.1.set :=
  View.cover_of_tiledL (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1 S512x1280.size (by sl_kernel_rfl) y

/-- What case C leaves in output 6's staging buffer: its pieces read back over junk. -/
def out0_C_6 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S512x1280 .bf16 :=
  VO0_6.read (Elt F) (VO0_6.writes (Elt F) VO0_6.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).1)

/-- Case C's pieces for output 7 tile its block (1 store of `S1`, checked by the kernel's evaluation: Lib/Ring.lean `Piece.tiledL`, linear in the pieces, through a loop's `@[irreducible]` trip theorem too), so they cover it. -/
theorem cover0_C_7 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S1.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.1, y ∈ pc.1.set :=
  View.cover_of_tiledL (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.1 S1.size (by sl_kernel_rfl) y

/-- What case C leaves in output 7's staging buffer: its pieces read back over junk. -/
def out0_C_7 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S1 .f32 :=
  VO0_7.read (Elt F) (VO0_7.writes (Elt F) VO0_7.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.1)

/-- Case C's pieces for output 8 tile its block (10 stores of `S512x512`, checked by the kernel's evaluation: Lib/Ring.lean `Piece.tiledL`, linear in the pieces, through a loop's `@[irreducible]` trip theorem too), so they cover it. -/
theorem cover0_C_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S512x5120.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1, y ∈ pc.1.set :=
  View.cover_of_tiledL (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1 S512x512.size (by sl_kernel_rfl) y

/-- What case C leaves in output 8's staging buffer: its pieces read back over junk. -/
def out0_C_8 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S512x5120 .fp8e4m3 :=
  VO0_8.read (Elt F) (VO0_8.writes (Elt F) VO0_8.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.1)

/-- Case C's pieces for scratch `arg11`, which the kernel carries between points, cover it: one of them a store of the WHOLE buffer (Lib/Ring.lean `sl_whole_mem`). -/
theorem scover0_C_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S1280x5120.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1, y ∈ pc.1.set :=
  View.cover_of_wholeMem (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1 (by sl_whole_mem) y

/-- What case C leaves in scratch `arg11`: its pieces read back over junk. -/
def sout0_C_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S1280x5120 .f32 :=
  VS0_0.read (Elt F) (VS0_0.writes (Elt F) VS0_0.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.1)

/-- Case C's pieces for scratch `arg13`, which the kernel carries between points, cover it: 10 pieces of `S16x512` tiling it (Lib/Ring.lean `Piece.tiledL`). -/
theorem scover0_C_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) (y : S16x512.Idx) :
    ∃ pc ∈ (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1, y ∈ pc.1.set :=
  View.cover_of_tiledL (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1 S16x512.size (by sl_kernel_rfl) y

/-- What case C leaves in scratch `arg13`: its pieces read back over junk. -/
def sout0_C_2 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : Vec F S16x512 .bf16 :=
  VS0_2.read (Elt F) (VS0_2.writes (Elt F) VS0_2.junk (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.1)

/-- What case C leaves in `main_v35_1`, the result left in HBM its copies out of scratch write: the contents
    it started from (`fw0`: what the point before left there, at the first point the launch's) with those copies written over
    them — the contents term the run finds, its witness. -/
def hbw0_C_0 (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S512x5120 .bf16) (harg4 : arg4.IsWhole) (arg5 : Memref sig .tc .vmem S512x1280 .fp8e4m3) (harg5 : arg5.IsWhole) (arg6 : Memref sig .tc .vmem S1280x5120 .fp8e4m3) (harg6 : arg6.IsWhole) (arg7 : Memref sig .tc .vmem S512x1280 .bf16) (harg7 : arg7.IsWhole) (arg9 : Memref sig .tc .smem S1 .f32) (harg9 : arg9.IsWhole) (arg10 : Memref sig .tc .vmem S512x5120 .fp8e4m3) (harg10 : arg10.IsWhole) (arg11 : Memref sig .tc .vmem S1280x5120 .f32) (harg11 : arg11.IsWhole) (arg12 : Memref sig .tc .vmem S1280x512 .fp8e4m3) (harg12 : arg12.IsWhole) (arg13 : Memref sig .tc .vmem S16x512 .bf16) (harg13 : arg13.IsWhole) (hc0 : ¬cond0_0 i) (hc1 : cond0_1 i)
    (x0 : Vec F S1 .f32) (x1 : Vec F S1 .f32) (x2 : Vec F S1 .f32) (x3 : Vec F S512x5120 .bf16) (x4 : Vec F S512x1280 .fp8e4m3) (x5 : Vec F S1280x5120 .fp8e4m3) (xs0 : Vec F S1280x5120 .f32) (xs2 : Vec F S16x512 .bf16) (fw0 : HbBuf0 (F := F) c hbM0_0) : HbBuf0 (F := F) c hbM0_0 := (kernelRun0_C c i arg1 harg1 arg2 harg2 arg3 harg3 arg4 harg4 arg5 harg5 arg6 harg6 arg7 harg7 arg9 harg9 arg10 harg10 arg11 harg11 arg12 harg12 arg13 harg13 hc0 hc1 x0 x1 x2 x3 x4 x5 xs0 xs2 fw0).2.2.2.2.2.2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1280 .bf16 × Vec F S1 .f32 × Vec F S512x5120 .fp8e4m3 × Vec F S1280x5120 .f32 × Vec F S16x512 .bf16 × HbBuf0 (F := F) c hbM0_0
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1), hbw0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v35_1))
  | n + 1, hn =>
    if h0 : (n + 1) % 64 = 0 then
      if h1 : (n + 1) % 64 = 63 then
        False.elim (by have hN : n + 1 < 64 := lt_of_lt_of_eq hn (show cfg0.N = 64 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1), hbw0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v35_1))
    else
      if h1 : (n + 1) % 64 = 63 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, hbw0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, hbw0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 64 = 0) (h1 : ¬t.val % 64 = 63) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1), hbw0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (V m c main_v35_1)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, hbw0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, hbw0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.2.1) ∗ (∃ d, owns (c : Thread nD τ) scM0_1 fullShare d) ∗ owns (c : Thread nD τ) scM0_2 fullShare ((outsAt0 m c n hn).2.2.2.2.1)) ∗ (∃ r, prngReg c r) ∗ iprop(semVal ((c : Thread nD τ), SemLoc.dma 13) 0) ∗ iprop(emp) ∗ iprop(hbPt0 c hbM0_0 ((outsAt0 m c n hn).2.2.2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ (∃ d, owns (c : Thread nD τ) scM0_1 fullShare d) ∗ owns (c : Thread nD τ) scM0_2 fullShare ((outsAt0 m c n hn).2.2.2.2.1)) ∗ (∃ r, prngReg c r) ∗ iprop(semVal ((c : Thread nD τ), SemLoc.dma 13) 0) ∗ iprop(emp) ∗ iprop(hbPt0 c hbM0_0 ((outsAt0 m c n hn).2.2.2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ (∃ d, owns (c : Thread nD τ) scM0_1 fullShare d) ∗ owns (c : Thread nD τ) scM0_2 fullShare ((outsAt0 m c (n - 1) (by omega)).2.2.2.2.1)) ∗ (∃ r, prngReg c r) ∗ iprop(semVal ((c : Thread nD τ), SemLoc.dma 13) 0) ∗ iprop(emp) ∗ iprop(hbPt0 c hbM0_0 ((outsAt0 m c (n - 1) (by omega)).2.2.2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 64 := lt_of_lt_of_eq t.isLt (show cfg0.N = 64 from N_0)
  by_cases h0 : t.val % 64 = 0
  · by_cases h1 : t.val % 64 = 63
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [show (dats m 0 c).leavesExact 8 t = owns (c : Thread nD τ) (ms0_8 t) fullShare ((dats m 0 c).after 8 t) from by
      unfold Dat.leavesExact; rw [liveAt0_8 t], after0_8]
      by_cases hz : t.val = 0
      · rw [PhiS_castSucc m c t, PhiS_zero m c _ _ hz, PhiDRG0_in_eq]
        rw [outsAt0_A m c t h0 h1]
        unfold out0_A_6 out0_A_8 sout0_A_0 sout0_A_2 hbw0_A_0; (try dsimp only)
        iintro ⟨⟨⟨HS0, HS1, HS2⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) _).2.2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexists _; iexact H8
        isplitl [HS0]; · iexact HS0
        isplitl [HS1]; · iexact HS1
        isplitl [HS2]; · iexact HS2
        isplitl [Hq0]; · iexact Hq0
        isplitl [Hh0]; · iexact Hh0
        isplitl [HW]; · iexact HW
        iintro ⟨H0, H1, H2, H3, H4, H5, ⟨%e6, H6⟩, H7, ⟨%e8, H8⟩, ⟨%es0, HS0⟩, ⟨%fT1, HS1⟩, ⟨%es2, HS2⟩, Hq0, Hh0, ⟨%W', HW'⟩⟩
        isplitl [HS0 HS1 HS2 Hg Hq0 Hh0]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _)
        isplitl [H7]; · iexists _; iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      · exfalso; have hN : t.val < 64 := lt_of_lt_of_eq t.isLt (show cfg0.N = 64 from N_0); omega
  · by_cases h1 : t.val % 64 = 63
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8 t], after0_8]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_6 out0_C_7 out0_C_8 sout0_C_0 sout0_C_2 hbw0_C_0; (try dsimp only)
        iintro ⟨⟨⟨HS0, HS1, HS2⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        isplitl [Hq0]; · iexact Hq0
        isplitl [Hh0]; · iexact Hh0
        isplitl [HW]; · iexact HW
        iintro ⟨H0, H1, H2, H3, H4, H5, ⟨%e6, H6⟩, ⟨%e7, H7⟩, ⟨%e8, H8⟩, ⟨%es0, HS0⟩, ⟨%fT1, HS1⟩, ⟨%es2, HS2⟩, Hq0, Hh0, ⟨%W', HW'⟩⟩
        isplitl [HS0 HS1 HS2 Hg Hq0 Hh0]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [show (dats m 0 c).leavesExact 8 t = owns (c : Thread nD τ) (ms0_8 t) fullShare ((dats m 0 c).after 8 t) from by
      unfold Dat.leavesExact; rw [liveAt0_8 t], after0_8]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_6 out0_B_8 sout0_B_0 sout0_B_2 hbw0_B_0; (try dsimp only)
        iintro ⟨⟨⟨HS0, HS1, HS2⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexists _; iexact H8
        isplitl [HS0]; · iexact HS0
        isplitl [HS1]; · iexact HS1
        isplitl [HS2]; · iexact HS2
        isplitl [Hq0]; · iexact Hq0
        isplitl [Hh0]; · iexact Hh0
        isplitl [HW]; · iexact HW
        iintro ⟨H0, H1, H2, H3, H4, H5, ⟨%e6, H6⟩, H7, ⟨%e8, H8⟩, ⟨%es0, HS0⟩, ⟨%fT1, HS1⟩, ⟨%es2, HS2⟩, Hq0, Hh0, ⟨%W', HW'⟩⟩
        isplitl [HS0 HS1 HS2 Hg Hq0 Hh0]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _)
        isplitl [H7]; · iexists _; iexact H7
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v35_1 (outsAt0 m c ((Fin.last cfg0.N).val - 1) (by rw [Fin.val_last]; have : cfg0.N = 64 := N_0; omega)).2.2.2.2.2
/-- `hbG0` at `main_v35_1`: `outsAt0`'s component. -/
theorem hbG0_0 (c : Dev nD) : hbG0 m c main_v35_1 = (outsAt0 m c ((Fin.last cfg0.N).val - 1) (by rw [Fin.val_last]; have : cfg0.N = 64 := N_0; omega)).2.2.2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_0 ((outsAt0 m c ((Fin.last cfg0.N).val - 1) (by rw [Fin.val_last]; have : cfg0.N = 64 := N_0; omega)).2.2.2.2.2)) := by
  unfold Pipeline.routed; rw [BI.bigSep_eq_bigSepL_of_eq [main_v35_1] (by decide) (by decide)]
  simp only [BI.bigSepL_singleton, hbG0_0]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 13) 0) ∗ iprop(emp) ∗ iprop(hbPt0 c hbM0_0 ((outsAt0 m c ((Fin.last cfg0.N).val - 1) (by rw [Fin.val_last]; have : cfg0.N = 64 := N_0; omega)).2.2.2.2.2))) := by
  rw [Pipeline.ΦDRG_eq, scopedRest0_eq, ownSems00_eq, hbmPts0_eq, heldG0_eq]; simp only [scM0_0, scM0_1, scM0_2, owns_whole]; try rfl

/-- The proof data's invariant at any position is `PhiS` there. -/
theorem Phi_eq (c : Dev nD) (k : Fin (cfg0.N + 1)) :
    (dats m 0 c).Φ k = PhiS m c k.val (Nat.le_of_lt_succ k.isLt) := rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [Phi_eq m c (Fin.last cfg0.N),
    PhiS_pos m c _ _ (by rw [Fin.val_last]; have : cfg0.N = 64 := N_0; omega), PhiDRG0_out_eq]
  iintro ⟨⟨HS0, HS1, HS2⟩, Hg, Hq0, Hh0⟩
  isplitl [HS0 HS1 HS2]
  · isplitl [HS0]
    · iexists _; iexact HS0
    isplitl [HS1]
    · iexact HS1
    iexists _; iexact HS2
  isplitl [Hg]; · iexact Hg
  isplitl [Hq0]
  · iexact Hq0
  iexact Hh0

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.toR) (run_main m ρ))

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.KernelRun.lean ====
/- The kernel's run with its results named: the three output windows' arrays after the launch, the dw result left in HBM
   at what the last grid point left in it, the gradient's scale, and the arguments unchanged. -/
module

public import proofs.«01_k».proof.Proof.IdealFrame
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The last grid point's number is a grid point. -/
theorem last_lt : 63 < cfg0.N := by have : cfg0.N = 64 := N_0; omega

/-- The dw result is stated at what the last grid point left in it. -/
theorem written_dw (c : Dev nD) : hbG0 m c main_v35_1 = (outsAt0 m c 63 last_lt).2.2.2.2.2 := by
  unfold hbG0
  rw [Function.update_self]
  have e : (Fin.last cfg0.N).val - 1 = 63 := by rw [Fin.val_last]; have : cfg0.N = 64 := N_0; omega
  congr 5

/-- After the run the dx result is its output window's array. -/
theorem post_dx (r : PUnit × MemSt nD τ sig (Elt F)) (h : Pipeline.FramePostRG cfgs (dats m) 0 R0 (V m) (hbG0 m) r) (c : Dev nD) :
    r.2.mem ((c : Thread nD τ).loc main_v35_0) = (dats m 0 c).arrAt 6 cfg0.N := (h.toR c).1 6

/-- After the run the dw result is what the last grid point left in it. -/
theorem post_dw (r : PUnit × MemSt nD τ sig (Elt F)) (h : Pipeline.FramePostRG cfgs (dats m) 0 R0 (V m) (hbG0 m) r) (c : Dev nD) :
    r.2.mem ((c : Thread nD τ).loc main_v35_1) = (outsAt0 m c 63 last_lt).2.2.2.2.2 := by
  rw [h.written c (by decide : main_v35_1 ∈ R0)]
  exact written_dw m c

/-- After the run the greatest magnitude is its output window's array. -/
theorem post_amax (r : PUnit × MemSt nD τ sig (Elt F)) (h : Pipeline.FramePostRG cfgs (dats m) 0 R0 (V m) (hbG0 m) r) (c : Dev nD) :
    r.2.mem ((c : Thread nD τ).loc main_v35_2) = (dats m 0 c).arrAt 7 cfg0.N := (h.toR c).1 7

/-- After the run the codes are their output window's array. -/
theorem post_codes (r : PUnit × MemSt nD τ sig (Elt F)) (h : Pipeline.FramePostRG cfgs (dats m) 0 R0 (V m) (hbG0 m) r) (c : Dev nD) :
    r.2.mem ((c : Thread nD τ).loc main_v35_3) = (dats m 0 c).arrAt 8 cfg0.N := (h.toR c).1 8

/-- After the run the gradient's scale is what the host lines computed. -/
theorem post_scale (r : PUnit × MemSt nD τ sig (Elt F)) (h : Pipeline.FramePostRG cfgs (dats m) 0 R0 (V m) (hbG0 m) r) (c : Dev nD) :
    r.2.mem ((c : Thread nD τ).loc main_v30) = V m c main_v30 :=
  (h.toR c).2 main_v30 (Finset.mem_sdiff.mpr ⟨Pipeline.mem_restRefs_of main_v30 (by decide) (by decide), by decide⟩)

/-- The run: dx, dw, amax, the codes and the gradient's scale. -/
theorem run_blocks : θ_run defs (onTc (τ := τ) (main (F := F))) ⟨m, fun _ => 0, ρ⟩ fun r => ∀ c : Dev nD,
      r.2.mem ((c : Thread nD τ).loc main_v35_0) = (dats m 0 c).arrAt 6 cfg0.N
      ∧ r.2.mem ((c : Thread nD τ).loc main_v35_1) = (outsAt0 m c 63 last_lt).2.2.2.2.2
      ∧ r.2.mem ((c : Thread nD τ).loc main_v35_2) = (dats m 0 c).arrAt 7 cfg0.N
      ∧ r.2.mem ((c : Thread nD τ).loc main_v35_3) = (dats m 0 c).arrAt 8 cfg0.N
      ∧ r.2.mem ((c : Thread nD τ).loc main_v30) = V m c main_v30 :=
  (θ_run defs _ _).mono (fun r h c => ⟨post_dx m r h c, post_dw m r h c, post_amax m r h c, post_codes m r h c,
    post_scale m r h c⟩) (run_main m ρ)

end Cert.KernelIdeal.Value

end
-- ==== Proof.KernelCodes.lean ====
/- The kernel's codes: what every grid point leaves in its block of the codes, and the codes' array after the run. -/
module

public import proofs.«01_k».proof.Proof.KernelRun
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

namespace Cert

open Idealize.ShloMosaic

/-- The code of `v` under the inverse scale `s`: the product clipped to ±448. -/
def code (v s : EReal) : EReal :=
  min (Ideal.ofBits .f32 0x43E00000#32) (max (Ideal.ofBits .f32 0xC3E00000#32) (v * s))

end Cert

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The windows' block indices at every grid point. -/
theorem idx : ∀ t : Fin cfg0.N, win0_0.index t = ![0] ∧ win0_1.index t = ![0] ∧ win0_2.index t = ![0]
    ∧ win0_3.index t = ![t.val, 0] ∧ win0_4.index t = ![t.val, 0] ∧ win0_5.index t = ![0, 0]
    ∧ win0_6.index t = ![t.val, 0] ∧ win0_7.index t = ![0] ∧ win0_8.index t = ![t.val, 0] :=
  (by decide +kernel : ∀ t : Fin grid0.N, _)

/-- The gradient the kernel reads, 32768 tokens by 5120 columns. -/
abbrev gradient (c : Dev nD) : FVec Ideal S32768x5120 .bf16 := V m c main_v33

/-- The inverse scale the kernel reads. -/
abbrev invScale (c : Dev nD) : EReal := (V m c main_v25 : FVec Ideal S1 .f32) (ix1 0)

/-- The code of the gradient's entry at row `y 0` of block `t`, column `y 1`. -/
abbrev blockCode (c : Dev nD) (t : Fin cfg0.N) (y : S512x5120.Idx) : EReal := code (iblk m c 3 t y) (invScale m c)

/-- A payload of the codes, over a 512-column slice of the block: the code of the block's entry. -/
theorem pay10_at (X : Vec Ideal S512x5120 .bf16) (I : Vec Ideal S1 .f32) (off : ℕ)
    (inb : ∀ a, (![0, off] : Fin 2 → Nat) a + S512x512.size a ≤ S512x5120.size a) (i : S1.Idx) (x : S512x512.Idx) (y : S512x5120.Idx)
    (h0 : (y 0 : ℕ) = x 0) (h1 : (y 1 : ℕ) = off + x 1) :
    k0_pay10 (F := Ideal) (View.ld I (Rect.unit ![0] ![1] inb_S1_S1_0) i) (View.ld X (Rect.unit ![0, off] ![512, 512] inb)) x
      = code (X y) (I (ix1 0)) := by
  pointwise [k0_pay10, k0_pay8, k0_pay7, code]
  blk_point []

/-! The other nine slices' payloads of the codes are the first one's. -/

/-- This column piece's payload of the codes is the first piece's. -/
theorem pay14_eq (s : Elt Ideal .f32) (v : Vec Ideal S512x512 .bf16) : k0_pay14 (F := Ideal) (k0_pay7 s) v = k0_pay10 s v := rfl
/-- This column piece's payload of the codes is the first piece's. -/
theorem pay19_eq (s : Elt Ideal .f32) (v : Vec Ideal S512x512 .bf16) : k0_pay19 (F := Ideal) (k0_pay7 s) v = k0_pay10 s v := rfl
/-- This column piece's payload of the codes is the first piece's. -/
theorem pay23_eq (s : Elt Ideal .f32) (v : Vec Ideal S512x512 .bf16) : k0_pay23 (F := Ideal) (k0_pay7 s) v = k0_pay10 s v := rfl
/-- This column piece's payload of the codes is the first piece's. -/
theorem pay28_eq (s : Elt Ideal .f32) (v : Vec Ideal S512x512 .bf16) : k0_pay28 (F := Ideal) (k0_pay7 s) (k0_pay25 v) = k0_pay10 s v := rfl
/-- This column piece's payload of the codes is the first piece's. -/
theorem pay33_eq (s : Elt Ideal .f32) (v : Vec Ideal S512x512 .bf16) : k0_pay33 (F := Ideal) (k0_pay30 v) (k0_pay32 (k0_pay7 s)) = k0_pay10 s v := rfl
/-- This column piece's payload of the codes is the first piece's. -/
theorem pay39_eq (s : Elt Ideal .f32) (v : Vec Ideal S512x512 .bf16) : k0_pay39 (F := Ideal) (k0_pay37 (k0_pay7 s) v) k0_pay38 = k0_pay10 s v := rfl
/-- This column piece's payload of the codes is the first piece's. -/
theorem pay43_eq (s : Elt Ideal .f32) (v : Vec Ideal S512x512 .bf16) : k0_pay43 (F := Ideal) (k0_pay7 s) v = k0_pay10 s v := rfl
/-- This column piece's payload of the codes is the first piece's. -/
theorem pay47_eq (s : Elt Ideal .f32) (v : Vec Ideal S512x512 .bf16) : k0_pay47 (F := Ideal) (k0_pay7 s) v = k0_pay10 s v := rfl
/-- This column piece's payload of the codes is the first piece's. -/
theorem pay52_eq (s : Elt Ideal .f32) (v : Vec Ideal S512x512 .bf16) : k0_pay52 (F := Ideal) (k0_pay7 s) v = k0_pay10 s v := rfl

/-- Every grid point leaves in its block of the codes the code of the gradient's block. -/
theorem codes_block (c : Dev nD) (t : Fin cfg0.N) (y : S512x5120.Idx) :
    (outsAt0 m c t.val t.isLt).2.2.1 y = blockCode m c t y := by
  have hi : (show FVec Ideal S1 .f32 from iblk m c 0 t) (ix1 0) = invScale m c := by blk_ext [iblk, idx t]
  unfold blockCode
  rw [← hi]
  by_cases h0 : t.val % 64 = 0 <;> by_cases h1 : t.val % 64 = 63
  · omega
  · rw [outsAt0_A m c t h0 h1]
    frame_out
    simp only [pay14_eq, pay19_eq, pay23_eq, pay28_eq, pay33_eq, pay39_eq, pay43_eq, pay47_eq, pay52_eq]
    canon_tiles x h
    all_goals exact pay10_at _ _ _ _ _ _ _ (by omega) (by omega)
  · rw [outsAt0_C m c t h0 h1]
    frame_out
    simp only [pay14_eq, pay19_eq, pay23_eq, pay28_eq, pay33_eq, pay39_eq, pay43_eq, pay47_eq, pay52_eq]
    canon_tiles x h
    all_goals exact pay10_at _ _ _ _ _ _ _ (by omega) (by omega)
  · rw [outsAt0_B m c t h0 h1]
    frame_out
    simp only [pay14_eq, pay19_eq, pay23_eq, pay28_eq, pay33_eq, pay39_eq, pay43_eq, pay47_eq, pay52_eq]
    canon_tiles x h
    all_goals exact pay10_at _ _ _ _ _ _ _ (by omega) (by omega)

/-- The codes' array after the run: every entry is the code of the gradient's entry. -/
theorem codes_final (c : Dev nD) : (dats m 0 c).arrAt 8 cfg0.N = fun y => code (gradient m c y) (invScale m c) := by
  refine (dats m 0 c).arrAt_eq_of_covers 8 _ (by decide +kernel) fun t hf y => ?_
  blk_simp
  rw [after0_8]
  refine (codes_block m c t y).trans ?_
  pointwise [code]
  blk_point [iblk, idx t]

end Cert.KernelIdeal.Value

end
-- ==== Proof.KernelDx.lean ====
/- The kernel's dx: what every grid point leaves in its block of dx, and dx's array after the run. -/
module
public import proofs.«01_k».proof.Proof.KernelCodes
public import Idealize.ShloMosaic.Lib.Pipeline.ValueKit
public import Idealize.ShloMosaic.Lib.Pipeline.ReadBack
public import Idealize.ShloMosaic.Lib.Pointwise
public import Idealize.ShloMosaic.Lib.ValueIdx
@[expose] public section
set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ)
/-- A load of a whole buffer reads what the stores before it left. -/
theorem readCov_whole {Val : EltTy → Type} [∀ e, Nonempty (Val e)] {sig : RefSig} {κ : Kind} {sp : Space} {S : Shape} {e : EltTy}
    (v : View sig κ sp S e) (L : List (View.Piece Val S e)) {off : Fin S.rank → ℕ} (inb : ∀ a, off a + S.size a ≤ S.size a)
    (h : ∀ a, off a = 0) : v.readCov L (Rect.unit off (no_index S.size) inb).toLoadRect = View.canon L := by
  rw [View.readCov_eq_canon']
  exact View.ld_unit_lit inb (View.canon L) h

/-- The block of dx computed from codes `C`, weights `W` and the factor `s`. -/
def dxOf (C : FVec Ideal S512x5120 .fp8e4m3) (W : FVec Ideal S1280x5120 .fp8e4m3) (s : FVec Ideal S1 .f32) (y : S512x1280.Idx) : EReal :=
  (∑ k : Fin 5120, C (ix2 (y 0) k) * W (ix2 (y 1) k)) * s (ix1 0)

/-- An entry of the stored dx block is `dxOf` of what was loaded. -/
theorem pay1_at (C : FVec Ideal S512x5120 .fp8e4m3) (W : FVec Ideal S1280x5120 .fp8e4m3) (s : FVec Ideal S1 .f32) (i : S1.Idx) (y : S512x1280.Idx) :
    k0_pay1 (F := Ideal) C W (View.ld s (Rect.unit ![0] ![1] inb_S1_S1_0) i) y = dxOf C W s y := by
  pointwise [k0_pay1, dxOf]

/-- The codes' block that a grid point stores, read back whole. -/
theorem dx_block (c : Dev nD) (t : Fin cfg0.N) (y : S512x1280.Idx) :
    (outsAt0 m c t.val t.isLt).1 y = dxOf (blockCode m c t) (iblk m c 5 t) (iblk m c 1 t) y := by
  have hi : (show FVec Ideal S1 .f32 from iblk m c 0 t) (ix1 0) = invScale m c := by blk_ext [iblk, idx t]
  unfold blockCode
  rw [← hi]
  by_cases h0 : t.val % 64 = 0 <;> by_cases h1 : t.val % 64 = 63
  · omega
  · rw [outsAt0_A m c t h0 h1]
    frame_out
    simp only [pay14_eq, pay19_eq, pay23_eq, pay28_eq, pay33_eq, pay39_eq, pay43_eq, pay47_eq, pay52_eq]
    refine (pay1_at _ _ _ _ _).trans (congrArg (fun C => dxOf C _ _ y) ?_)
    refine (readCov_whole _ _ _ (by decide)).trans (funext fun z => ?_)
    canon_tiles x h
    all_goals exact pay10_at _ _ _ _ _ _ _ (by omega) (by omega)
  · rw [outsAt0_C m c t h0 h1]
    frame_out
    simp only [pay14_eq, pay19_eq, pay23_eq, pay28_eq, pay33_eq, pay39_eq, pay43_eq, pay47_eq, pay52_eq]
    refine (pay1_at _ _ _ _ _).trans (congrArg (fun C => dxOf C _ _ y) ?_)
    refine (readCov_whole _ _ _ (by decide)).trans (funext fun z => ?_)
    canon_tiles x h
    all_goals exact pay10_at _ _ _ _ _ _ _ (by omega) (by omega)
  · rw [outsAt0_B m c t h0 h1]
    frame_out
    simp only [pay14_eq, pay19_eq, pay23_eq, pay28_eq, pay33_eq, pay39_eq, pay43_eq, pay47_eq, pay52_eq]
    refine (pay1_at _ _ _ _ _).trans (congrArg (fun C => dxOf C _ _ y) ?_)
    refine (readCov_whole _ _ _ (by decide)).trans (funext fun z => ?_)
    canon_tiles x h
    all_goals exact pay10_at _ _ _ _ _ _ _ (by omega) (by omega)

/-- dx after the run: the product of the codes with the weights, times the factor. -/
theorem dx_final (c : Dev nD) : (dats m 0 c).arrAt 6 cfg0.N = fun y : S32768x1280.Idx =>
    (∑ k : Fin 5120, code (gradient m c (ix2 (y 0) k)) (invScale m c) * (V m c main_arg3 : FVec Ideal S1280x5120 .fp8e4m3) (ix2 (y 1) k))
      * (V m c main_v31 : FVec Ideal S1 .f32) (ix1 0) := by
  refine (dats m 0 c).arrAt_eq_of_covers 6 _ (by decide +kernel) fun t hf y => ?_
  blk_simp
  rw [after0_6]
  refine (dx_block m c t y).trans ?_
  pointwise [dxOf, code]
  blk_point [iblk, idx t]
end Cert.KernelIdeal.Value
end
-- ==== Proof.KernelDw.lean ====
/- The kernel's dw: the accumulator the grid points carry, and the dw result the last one leaves. -/
module
public import proofs.«01_k».proof.Proof.KernelDx
public import Idealize.ShloMosaic.Lib.Pipeline.ValueKit
public import Idealize.ShloMosaic.Lib.Pipeline.ReadBack
public import Idealize.ShloMosaic.Lib.Pointwise
public import Idealize.ShloMosaic.Lib.VecWindow
public import Idealize.ShloMosaic.Lib.ValueIdx
@[expose] public section
set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ)
/-- The sum of two extended reals, and their product. -/
abbrev plus (a b : EReal) : EReal := a + b
/-- The product over the extended reals. -/
abbrev times (a b : EReal) : EReal := a * b

/-- What one grid point adds to the accumulator of dw: its rows of x times its rows of codes. -/
def dwTerm (c : Dev nD) (t : Fin cfg0.N) (y : S1280x5120.Idx) : EReal :=
  ∑ k : Fin 512, (show FVec Ideal S512x1280 .fp8e4m3 from iblk m c 4 t) (ix2 k (y 0)) * blockCode m c t (ix2 k (y 1))

/-- This column piece's payload of the accumulator is the first piece's. -/
theorem pay15_eq (A : FVec Ideal S1280x512 .f32) (X : FVec Ideal S1280x512 .fp8e4m3) (C : FVec Ideal S512x512 .fp8e4m3) : k0_pay16 (k0_pay15 (F := Ideal) A X C) = k0_pay11 A X C := rfl
/-- This column piece's payload of the accumulator is the first piece's. -/
theorem pay20_eq (A : FVec Ideal S1280x512 .f32) (X : FVec Ideal S1280x512 .fp8e4m3) (C : FVec Ideal S512x512 .fp8e4m3) : k0_pay20 (F := Ideal) A X C = k0_pay11 A X C := rfl
/-- This column piece's payload of the accumulator is the first piece's. -/
theorem pay24_eq (A : FVec Ideal S1280x512 .f32) (X : FVec Ideal S1280x512 .fp8e4m3) (C : FVec Ideal S512x512 .fp8e4m3) : k0_pay24 (F := Ideal) A X C = k0_pay11 A X C := rfl
/-- This column piece's payload of the accumulator is the first piece's. -/
theorem pay29_eq (A : FVec Ideal S1280x512 .f32) (X : FVec Ideal S1280x512 .fp8e4m3) (C : FVec Ideal S512x512 .fp8e4m3) : k0_pay29 (F := Ideal) A X C = k0_pay11 A X C := rfl
/-- This column piece's payload of the accumulator is the first piece's. -/
theorem pay34_eq (A : FVec Ideal S1280x512 .f32) (X : FVec Ideal S1280x512 .fp8e4m3) (C : FVec Ideal S512x512 .fp8e4m3) : k0_pay34 (F := Ideal) A X C = k0_pay11 A X C := rfl
/-- This column piece's payload of the accumulator is the first piece's. -/
theorem pay40_eq (A : FVec Ideal S1280x512 .f32) (X : FVec Ideal S1280x512 .fp8e4m3) (C : FVec Ideal S512x512 .fp8e4m3) : k0_pay40 (F := Ideal) A X C = k0_pay11 A X C := rfl
/-- This column piece's payload of the accumulator is the first piece's. -/
theorem pay44_eq (A : FVec Ideal S1280x512 .f32) (X : FVec Ideal S1280x512 .fp8e4m3) (C : FVec Ideal S512x512 .fp8e4m3) : k0_pay44 (F := Ideal) A X C = k0_pay11 A X C := rfl
/-- This column piece's payload of the accumulator is the first piece's. -/
theorem pay49_eq (A : FVec Ideal S1280x512 .f32) (X : FVec Ideal S1280x512 .fp8e4m3) (C : FVec Ideal S512x512 .fp8e4m3) : k0_pay49 (F := Ideal) A X (k0_pay48 C) = k0_pay11 A X C := rfl
/-- This column piece's payload of the accumulator is the first piece's. -/
theorem pay53_eq (A : FVec Ideal S1280x512 .f32) (X : FVec Ideal S1280x512 .fp8e4m3) (C : FVec Ideal S512x512 .fp8e4m3) : k0_pay53 (F := Ideal) A X C = k0_pay11 A X C := rfl

/-- The store of one column piece of the accumulator, at an entry: the accumulator read there plus the product's entry. -/
theorem pay11_at (A : Vec Ideal S1280x5120 .f32) (X : Vec Ideal S512x1280 .fp8e4m3) (C : Vec Ideal S512x512 .fp8e4m3)
    (g : Fin 512 → EReal) (off : ℕ) (ina : ∀ a, (![0, off] : Fin 2 → Nat) a + S1280x512.size a ≤ S1280x5120.size a)
    (x : S1280x512.Idx) (y : S1280x5120.Idx) (h0 : (y 0).val = (x 0).val) (h1 : (y 1).val = off + (x 1).val)
    (hC : ∀ k : Fin 512, C (ix2 k (x 1)) = g k) :
    k0_pay11 (F := Ideal) (View.ld A (Rect.unit ![0, off] ![1280, 512] ina)) (k0_pay6 (F := Ideal) X) C x
      = plus (A y) (∑ k : Fin 512, times (X (ix2 k (y 0))) (g k)) := by
  simp only [← hC]
  have hy : ix2 (x 0) ⟨off + (x 1).val, h1 ▸ (y 1).isLt⟩ = y := by blk_ext []
  have hy0 : (x 0) = (y 0) := Fin.ext h0.symm
  pointwise [k0_pay11, k0_pay6]
  rw [← hy]
  rfl

/-- The same with the piece's codes computed from their gradient. -/
theorem pay11_code (A : Vec Ideal S1280x5120 .f32) (X : Vec Ideal S512x1280 .fp8e4m3) (I : Vec Ideal S1 .f32) (G : Vec Ideal S512x5120 .bf16)
    (off : ℕ) (ina : ∀ a, (![0, off] : Fin 2 → Nat) a + S1280x512.size a ≤ S1280x5120.size a)
    (inb : ∀ a, (![0, off] : Fin 2 → Nat) a + S512x512.size a ≤ S512x5120.size a) (i : S1.Idx) (x : S1280x512.Idx) (y : S1280x5120.Idx)
    (h0 : (y 0).val = (x 0).val) (h1 : (y 1).val = off + (x 1).val) :
    k0_pay11 (F := Ideal) (View.ld A (Rect.unit ![0, off] ![1280, 512] ina)) (k0_pay6 (F := Ideal) X)
      (k0_pay10 (F := Ideal) (View.ld I (Rect.unit ![0] ![1] inb_S1_S1_0) i) (View.ld G (Rect.unit ![0, off] ![512, 512] inb))) x
      = plus (A y) (∑ k : Fin 512, times (X (ix2 k (y 0))) (code (G (ix2 k (y 1))) (I (ix1 0)))) :=
  pay11_at A X _ _ off ina x y h0 h1 fun k => pay10_at G I off inb i (ix2 k (x 1)) (ix2 k (y 1)) rfl h1

/-- Stores under stores that cover an entry do not show there. -/
theorem canon_under {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], h => by obtain ⟨p, hp, _⟩ := h; simp at hp
  | p :: L, h => by
    rw [List.cons_append]
    by_cases hp : y ∈ p.1.set
    · rw [View.canon_cons, View.canon_cons]
      obtain ⟨x, hx⟩ : ∃ x, p.1.emb x = y := by rw [← Rect.map_emb_univ] at hp; obtain ⟨x, -, hx⟩ := Finset.mem_map.mp hp; exact ⟨x, hx⟩
      rw [← hx]
      exact (p.1.overlay_emb _ _ _).trans (p.1.overlay_emb _ _ _).symm
    · rw [View.canon_cons_of_not_mem p _ hp, View.canon_cons_of_not_mem p _ hp]
      refine canon_under L' y L ?_
      obtain ⟨q, hq, hy⟩ := h
      rcases List.mem_cons.mp hq with rfl | hq
      · exact absurd hy hp
      · exact ⟨q, hq, hy⟩

/-- The accumulator after the first point. -/
theorem dw_first (c : Dev nD) (t : Fin cfg0.N) (h0 : t.val % 64 = 0) (y : S1280x5120.Idx) :
    (outsAt0 m c t.val t.isLt).2.2.2.1 y = 0 + dwTerm m c t y := by
  have hi : (show FVec Ideal S1 .f32 from iblk m c 0 t) (ix1 0) = invScale m c := by blk_ext [iblk, idx t]
  unfold dwTerm blockCode
  rw [← hi]
  have hz : (0 : EReal) = k0_pay4 (F := Ideal) y := by pointwise [k0_pay4]
  rw [hz, outsAt0_A m c t h0 (by omega)]
  frame_out
  simp (disch := decide) only [↓ View.readCov_skip, ↓ View.readCov_cons_toLoadRect, ↓ View.readCov_fill]
  simp only [pay14_eq, pay19_eq, pay23_eq, pay28_eq, pay33_eq, pay39_eq, pay43_eq, pay47_eq, pay52_eq,
    pay15_eq, pay20_eq, pay24_eq, pay29_eq, pay34_eq, pay40_eq, pay44_eq, pay49_eq, pay53_eq]
  refine (canon_under [_] y [_, _, _, _, _, _, _, _, _, _] ?_).trans ?_
  · have h0 : (y 0).val < 1280 := (y 0).isLt
    have h1 : (y 1).val < 5120 := (y 1).isLt
    simp only [List.exists_mem_cons_iff, Rect.mem_set_unit, Fin.forall_fin_two, Matrix.cons_val_zero, Matrix.cons_val_one]
    omega
  canon_tiles x h
  all_goals exact pay11_code _ _ _ _ _ _ _ _ _ _ (by omega) (by omega)

/-- A middle point adds its term to what the point before left. -/
theorem dw_step (c : Dev nD) (t : Fin cfg0.N) (h0 : ¬t.val % 64 = 0) (h1 : ¬t.val % 64 = 63) (y : S1280x5120.Idx) :
    (outsAt0 m c t.val t.isLt).2.2.2.1 y
      = (outsAt0 m c (t.val - 1) (Nat.lt_of_le_of_lt (Nat.sub_le _ _) t.isLt)).2.2.2.1 y + dwTerm m c t y := by
  have hi : (show FVec Ideal S1 .f32 from iblk m c 0 t) (ix1 0) = invScale m c := by blk_ext [iblk, idx t]
  unfold dwTerm blockCode
  rw [← hi, outsAt0_B m c t h0 h1]
  frame_out
  simp (disch := decide) only [↓ View.readCov_skip, ↓ View.readCov_cons_toLoadRect, ↓ View.readCov_fill]
  simp only [read_unread_whole, pay14_eq, pay19_eq, pay23_eq, pay28_eq, pay33_eq, pay39_eq, pay43_eq, pay47_eq, pay52_eq,
    pay15_eq, pay20_eq, pay24_eq, pay29_eq, pay34_eq, pay40_eq, pay44_eq, pay49_eq, pay53_eq]
  canon_tiles x h
  all_goals exact pay11_code _ _ _ _ _ _ _ _ _ _ (by omega) (by omega)

/-- An array times a one-entry factor, at an entry. -/
def scaled (A : FVec Ideal S1280x5120 .f32) (s : FVec Ideal S1 .f32) (y : S1280x5120.Idx) : EReal := A y * s (ix1 0)

/-- An entry of the final scaling: the accumulator's entry times the factor. -/
theorem pay2_at (A : FVec Ideal S1280x5120 .f32) (s : FVec Ideal S1 .f32) (i : S1.Idx) (y : S1280x5120.Idx) :
    k0_pay2 (F := Ideal) A (View.ld s (Rect.unit ![0] ![1] inb_S1_S1_0) i) y = scaled A s y := by
  pointwise [k0_pay2, scaled]

/-- The last point adds its term and scales the whole accumulator. -/
theorem dw_last (c : Dev nD) (t : Fin cfg0.N) (h0 : ¬t.val % 64 = 0) (h1 : t.val % 64 = 63) (y : S1280x5120.Idx) :
    (outsAt0 m c t.val t.isLt).2.2.2.1 y
      = scaled (fun z => (outsAt0 m c (t.val - 1) (Nat.lt_of_le_of_lt (Nat.sub_le _ _) t.isLt)).2.2.2.1 z + dwTerm m c t z)
        (iblk m c 2 t) y := by
  have hi : (show FVec Ideal S1 .f32 from iblk m c 0 t) (ix1 0) = invScale m c := by blk_ext [iblk, idx t]
  unfold dwTerm blockCode
  rw [← hi, outsAt0_C m c t h0 h1]
  frame_out
  simp (disch := decide) only [↓ View.readCov_skip, ↓ View.readCov_cons_toLoadRect, ↓ View.readCov_fill]
  simp only [read_unread_whole, pay14_eq, pay19_eq, pay23_eq, pay28_eq, pay33_eq, pay39_eq, pay43_eq, pay47_eq, pay52_eq,
    pay15_eq, pay20_eq, pay24_eq, pay29_eq, pay34_eq, pay40_eq, pay44_eq, pay49_eq, pay53_eq]
  refine (pay2_at _ _ _ _).trans (congrArg (fun A => scaled A _ y) ?_)
  refine (readCov_whole _ _ _ (by decide)).trans (funext fun z => ?_)
  canon_tiles x h
  all_goals exact pay11_code _ _ _ _ _ _ _ _ _ _ (by omega) (by omega)

/-- The last point copies the scaled accumulator out. -/
theorem dw_copied (c : Dev nD) (t : Fin cfg0.N) (h0 : ¬t.val % 64 = 0) (h1 : t.val % 64 = 63) :
    (outsAt0 m c t.val t.isLt).2.2.2.2.2 = (outsAt0 m c t.val t.isLt).2.2.2.1 := by
  rw [outsAt0_C m c t h0 h1]
  dsimp only
  unfold hbw0_C_0 sout0_C_0
  unfold kernelRun0_C
  dsimp only
  unfold kernelRun0_C.sl.dma126 kernelRun0_C.sl.HS0_11
  refine (View.write_whole_univ _ _ _).trans ?_
  refine (View.read_writes_full _ _ _ _ _).trans ?_
  exact Eq.symm (View.read_writes_full (Val := Elt Ideal) VS0_0 _ _ _ _)

/-- The accumulator before the last point. -/
theorem dw_before (c : Dev nD) (t : Fin 63) (ht : t.val + 1 = 63) (y : S1280x5120.Idx) :
    (outsAt0 m c t.val (t.isLt.trans last_lt)).2.2.2.1 y = (0 : EReal) + ∑ p : Fin 63, dwTerm m c ⟨p.val, p.isLt.trans last_lt⟩ y :=
  Pipeline.eq_sum_fin_of_reset_step_apply_last (N := 63) (fun n h => (outsAt0 m c n (h.trans last_lt)).2.2.2.1) 64 (fun _ => (0 : EReal))
    (fun p => dwTerm m c ⟨p.val, p.isLt.trans last_lt⟩)
    (fun t h y => dw_first m c ⟨t.val, t.isLt.trans last_lt⟩ h y)
    (fun t h y => dw_step m c ⟨t.val, t.isLt.trans last_lt⟩ h (by have := t.isLt; show ¬t.val % 64 = 63; omega) y)
    (by decide) t ht y

/-- The layer's input as the kernel's region reads it. -/
abbrev inputs (c : Dev nD) : FVec Ideal S32768x1280 .fp8e4m3 := V m c main_v34

/-- The factor of dw as the kernel's region reads it. -/
abbrev dwFactor (c : Dev nD) : FVec Ideal S1 .f32 := V m c main_v32

/-- A point's term by the arrays' rows. -/
theorem dwTerm_rows (c : Dev nD) (t : Fin cfg0.N) (y : S1280x5120.Idx) (s : Fin 64) (h : t.val = s.val) :
    dwTerm m c t y = ∑ k : Fin 512, (fun n : Fin 32768 => inputs m c (ix2 n (y 0)) * code (gradient m c (ix2 n (y 1))) (invScale m c))
      ⟨s.val * 512 + k.val, by have := s.isLt; have := k.isLt; omega⟩ := by
  unfold dwTerm blockCode code
  refine Fin.sum_fin_congr fun k => ?_
  beta_reduce
  blk_point [iblk, idx t, h]

/-- The scaled accumulator after the last point. -/
theorem dw_total (c : Dev nD) (t : Fin cfg0.N) (ht : t.val = 63) (y : S1280x5120.Idx) :
    (outsAt0 m c t.val t.isLt).2.2.2.1 y
      = (∑ n : Fin 32768, inputs m c (ix2 n (y 0)) * code (gradient m c (ix2 n (y 1))) (invScale m c)) * dwFactor m c (ix1 0) := by
  refine (dw_last m c t (by omega) (by omega) y).trans ?_
  unfold scaled
  have hs : (show FVec Ideal S1 .f32 from iblk m c 2 t) (ix1 0) = dwFactor m c (ix1 0) := by blk_ext [iblk, idx t]
  refine congrArg₂ (· * ·) ?_ hs
  refine Eq.trans (congrArg (· + dwTerm m c t y) ((dw_before m c ⟨t.val - 1, by omega⟩ (by show t.val - 1 + 1 = 63; omega) y).trans (zero_add _))) ?_
  refine Eq.trans ?_ (Fin.sum_mul_add_fin 64 512 fun n : Fin 32768 => inputs m c (ix2 n (y 0)) * code (gradient m c (ix2 n (y 1))) (invScale m c))
  refine Eq.trans ?_ (Fin.sum_univ_castSucc _).symm
  refine congrArg₂ (· + ·) (Finset.sum_congr rfl fun p _ => ?_) ?_
  · exact dwTerm_rows m c _ y p.castSucc rfl
  · exact dwTerm_rows m c t y (Fin.last 63) ht

/-- dw after the run: x transposed times the codes, times the factor. -/
theorem dw_final (c : Dev nD) : (outsAt0 m c 63 last_lt).2.2.2.2.2 = fun y : S1280x5120.Idx =>
    (∑ n : Fin 32768, inputs m c (ix2 n (y 0)) * code (gradient m c (ix2 n (y 1))) (invScale m c)) * dwFactor m c (ix1 0) := by
  have hlast (n : ℕ) (hn : n < cfg0.N) (e : n = 63) : (outsAt0 m c n hn).2.2.2.2.2 = fun y : S1280x5120.Idx =>
      (∑ n : Fin 32768, inputs m c (ix2 n (y 0)) * code (gradient m c (ix2 n (y 1))) (invScale m c)) * dwFactor m c (ix1 0) :=
    (dw_copied m c ⟨n, hn⟩ (by show ¬ n % 64 = 0; omega) (by show n % 64 = 63; omega)).trans (funext fun y => dw_total m c ⟨n, hn⟩ e y)
  exact hlast 63 last_lt rfl
end Cert.KernelIdeal.Value
end
-- ==== Proof.KernelAmax.lean ====
/- The kernel's greatest magnitude: the running maximum the grid points carry, and the value the last one stores. -/
module
public import proofs.«01_k».proof.Proof.KernelDw
public import Idealize.ShloMosaic.Lib.Pipeline.ValueKit
public import Idealize.ShloMosaic.Lib.Pipeline.ReadBack
public import Idealize.ShloMosaic.Lib.Pointwise
public import Idealize.ShloMosaic.Lib.ValueIdx
@[expose] public section
set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ)
/-- The bf16 start of the running maximum's fold is the least element. -/
theorem bot16 : Ideal.ofBits .bf16 65408#16 = ⊥ := by
  simp [Ideal.ofBits, Ideal.ieee]
/-- The f32 start of the final fold is the least element. -/
theorem bot32 : Ideal.ofBits .f32 4286578688#32 = ⊥ := by
  simp [Ideal.ofBits, Ideal.ieee]

/-- The absolute value over the extended reals. -/
abbrev mag (x : EReal) : EReal := max x (-x)

/-- One step of the running maximum lies under a bound when the old one and every magnitude of the piece do. -/
theorem pay9_le (X : Vec Ideal S512x512 .bf16) (A : Vec Ideal S16x512 .bf16) (b : EReal) :
    (∀ z : S16x512.Idx, (show EReal from k0_pay9 (F := Ideal) X A z) ≤ b) ↔ (∀ z : S16x512.Idx, (show EReal from A z) ≤ b) ∧ ∀ x : S512x512.Idx, mag (X x) ≤ b := by
  have hz (z : S16x512.Idx) : (show EReal from k0_pay9 (F := Ideal) X A z) = max (A z : EReal)
      (Finset.univ.fold max (⊥ : EReal) fun x : Fin 32 => mag (X (ix2 ⟨x.val * 16 + (z 0).val, by have := x.isLt; have : (z 0).val < 16 := (z 0).isLt; omega⟩ (z 1)))) := by
    rw [← bot16]
    pointwise [k0_pay9, k0_pay8]
    rfl
  simp only [hz, max_le_iff, Finset.fold_max_le, bot_le, true_and, Finset.mem_univ, true_implies]
  rw [forall_and]
  refine and_congr_right fun _ => ⟨fun h x => ?_, fun h z k => h _⟩
  have hx : (x 0).val < 512 := (x 0).isLt
  have hxx : ix2 (⟨(x 0).val / 16 * 16 + (x 0).val % 16, by omega⟩ : Fin 512) (x 1) = x := by
    refine funext fun a => Fin.cases ?_ (fun i => ?_) a
    · apply Fin.ext; show (x 0).val / 16 * 16 + (x 0).val % 16 = (x 0).val; omega
    · obtain rfl : i = 0 := Subsingleton.elim _ _
      rfl
  have := h (ix2 ⟨(x 0).val % 16, Nat.mod_lt _ (by decide)⟩ (x 1)) ⟨(x 0).val / 16, by omega⟩
  rw [← hxx]
  exact this

/-- The greatest of the running maxima lies under a bound when all do. -/
theorem pay3_le (A : Vec Ideal S16x512 .bf16) (b : EReal) :
    (show EReal from k0_pay3 (F := Ideal) A) ≤ b ↔ ∀ z : S16x512.Idx, (show EReal from A z) ≤ b := by
  have hz : (show EReal from k0_pay3 (F := Ideal) A) = Finset.univ.fold max (⊥ : EReal) fun x : Fin 16 × Fin 512 => (A (ix2 x.1 x.2) : EReal) := by
    rw [← bot32]
    pointwise [k0_pay3]
  rw [hz]
  simp only [Finset.fold_max_le, bot_le, true_and, Finset.mem_univ, true_implies]
  refine ⟨fun h z => ?_, fun h z => h _⟩
  have hz : ix2 (z 0) (z 1) = z := by
    refine funext fun a => Fin.cases rfl (fun i => ?_) a
    obtain rfl : i = 0 := Subsingleton.elim _ _
    rfl
  rw [← hz]
  exact h (z 0, z 1)

/-- This column piece's payload of the running maximum is the first piece's. -/
theorem pay13_eq (X : Vec Ideal S512x512 .bf16) (A : Vec Ideal S16x512 .bf16) : k0_pay13 (F := Ideal) X A = k0_pay9 X A := rfl
/-- This column piece's payload of the running maximum is the first piece's. -/
theorem pay18_eq (X : Vec Ideal S512x512 .bf16) (A : Vec Ideal S16x512 .bf16) : k0_pay18 (F := Ideal) X A = k0_pay9 X A := rfl
/-- This column piece's payload of the running maximum is the first piece's. -/
theorem pay22_eq (X : Vec Ideal S512x512 .bf16) (A : Vec Ideal S16x512 .bf16) : k0_pay22 (F := Ideal) X A = k0_pay9 X A := rfl
/-- This column piece's payload of the running maximum is the first piece's. -/
theorem pay31_eq (X : Vec Ideal S512x512 .bf16) (A : Vec Ideal S16x512 .bf16) : k0_pay31 (F := Ideal) X A = k0_pay9 X A := rfl
/-- This column piece's payload of the running maximum is the first piece's. -/
theorem pay36_eq (X : Vec Ideal S512x512 .bf16) (A : Vec Ideal S16x512 .bf16) : k0_pay36 (F := Ideal) X A = k0_pay9 X A := rfl
/-- This column piece's payload of the running maximum is the first piece's. -/
theorem pay42_eq (X : Vec Ideal S512x512 .bf16) (A : Vec Ideal S16x512 .bf16) : k0_pay42 (F := Ideal) X A = k0_pay9 X A := rfl
/-- This column piece's payload of the running maximum is the first piece's. -/
theorem pay46_eq (X : Vec Ideal S512x512 .bf16) (A : Vec Ideal S16x512 .bf16) : k0_pay46 (F := Ideal) X A = k0_pay9 X A := rfl
/-- This column piece's payload of the running maximum is the first piece's. -/
theorem pay51_eq (X : Vec Ideal S512x512 .bf16) (A : Vec Ideal S16x512 .bf16) : k0_pay51 (F := Ideal) X A = k0_pay9 X A := rfl
/-- This column piece's payload of the running maximum is the first piece's. -/
theorem pay27_eq (X : Vec Ideal S512x512 .bf16) (A : Vec Ideal S16x512 .bf16) : k0_pay27 (F := Ideal) A (k0_pay26 X) = k0_pay9 X A := rfl

/-- The running maximum after the ten column pieces of a block. -/
def sweep (X : Vec Ideal S512x5120 .bf16) (A : Vec Ideal S16x512 .bf16) : Vec Ideal S16x512 .bf16 :=
  k0_pay9 (F := Ideal) (View.ld X (Rect.unit ![0, 4608] ![512, 512] inb_S512x5120_S512x512_0_4608))
    (k0_pay9 (F := Ideal) (View.ld X (Rect.unit ![0, 4096] ![512, 512] inb_S512x5120_S512x512_0_4096))
    (k0_pay9 (F := Ideal) (View.ld X (Rect.unit ![0, 3584] ![512, 512] inb_S512x5120_S512x512_0_3584))
    (k0_pay9 (F := Ideal) (View.ld X (Rect.unit ![0, 3072] ![512, 512] inb_S512x5120_S512x512_0_3072))
    (k0_pay9 (F := Ideal) (View.ld X (Rect.unit ![0, 2560] ![512, 512] inb_S512x5120_S512x512_0_2560))
    (k0_pay9 (F := Ideal) (View.ld X (Rect.unit ![0, 2048] ![512, 512] inb_S512x5120_S512x512_0_2048))
    (k0_pay9 (F := Ideal) (View.ld X (Rect.unit ![0, 1536] ![512, 512] inb_S512x5120_S512x512_0_1536))
    (k0_pay9 (F := Ideal) (View.ld X (Rect.unit ![0, 1024] ![512, 512] inb_S512x5120_S512x512_0_1024))
    (k0_pay9 (F := Ideal) (View.ld X (Rect.unit ![0, 512] ![512, 512] inb_S512x5120_S512x512_0_512))
    (k0_pay9 (F := Ideal) (View.ld X (Rect.unit ![0, 0] ![512, 512] inb_S512x5120_S512x512_0_0))
    A)))))))))

/-- A column piece's magnitudes are the block's on its columns. -/
theorem piece_le (X : Vec Ideal S512x5120 .bf16) (off : ℕ) (inb : ∀ a, (![0, off] : Fin 2 → Nat) a + S512x512.size a ≤ S512x5120.size a) (b : EReal) :
    (∀ x : S512x512.Idx, mag (View.ld X (Rect.unit ![0, off] ![512, 512] inb) x) ≤ b)
      ↔ ∀ y : S512x5120.Idx, off ≤ (y 1).val → (y 1).val < off + 512 → mag (X y) ≤ b := by
  have hl (x : S512x512.Idx) (y : S512x5120.Idx) (h0 : (y 0).val = (x 0).val) (h1 : (y 1).val = off + (x 1).val) :
      View.ld X (Rect.unit ![0, off] ![512, 512] inb) x = X y := by
    have hy : ix2 (x 0) ⟨off + (x 1).val, h1 ▸ (y 1).isLt⟩ = y := by blk_ext []
    pointwise []
    exact congrArg X hy
  have hb : off + 512 ≤ 5120 := inb 1
  constructor
  · intro h y h1 h2
    have := h (ix2 (y 0) ⟨(y 1).val - off, by omega⟩)
    rwa [hl _ y rfl (by show (y 1).val = off + ((y 1).val - off); omega)] at this
  · intro h x
    have hx : (x 1).val < 512 := (x 1).isLt
    rw [hl x (ix2 (x 0) ⟨off + (x 1).val, by omega⟩) rfl rfl]
    exact h _ (Nat.le_add_right _ _) (by show off + (x 1).val < off + 512; omega)

/-- The running maximum after a block lies under a bound when the old one and the block's magnitudes do. -/
theorem sweep_le (X : Vec Ideal S512x5120 .bf16) (A : Vec Ideal S16x512 .bf16) (b : EReal) :
    (∀ z : S16x512.Idx, (show EReal from sweep X A z) ≤ b) ↔ (∀ z : S16x512.Idx, (show EReal from A z) ≤ b) ∧ ∀ y : S512x5120.Idx, mag (X y) ≤ b := by
  unfold sweep
  refine (pay9_le _ _ b).trans ?_
  iterate 9 rw [pay9_le]
  simp only [piece_le, and_assoc]
  refine and_congr_right fun _ => ⟨fun h y => ?_, fun h => ?_⟩
  · have hy : (y 1).val < 5120 := (y 1).isLt
    obtain ⟨g0, g1, g2, g3, g4, g5, g6, g7, g8, g9⟩ := h
    rcases (by omega : (y 1).val < 512 ∨ (512 ≤ (y 1).val ∧ (y 1).val < 1024) ∨ (1024 ≤ (y 1).val ∧ (y 1).val < 1536)
      ∨ (1536 ≤ (y 1).val ∧ (y 1).val < 2048) ∨ (2048 ≤ (y 1).val ∧ (y 1).val < 2560) ∨ (2560 ≤ (y 1).val ∧ (y 1).val < 3072)
      ∨ (3072 ≤ (y 1).val ∧ (y 1).val < 3584) ∨ (3584 ≤ (y 1).val ∧ (y 1).val < 4096) ∨ (4096 ≤ (y 1).val ∧ (y 1).val < 4608)
      ∨ (4608 ≤ (y 1).val)) with c | c | c | c | c | c | c | c | c | c
    · exact g0 y (by omega) (by omega)
    · exact g1 y (by omega) (by omega)
    · exact g2 y (by omega) (by omega)
    · exact g3 y (by omega) (by omega)
    · exact g4 y (by omega) (by omega)
    · exact g5 y (by omega) (by omega)
    · exact g6 y (by omega) (by omega)
    · exact g7 y (by omega) (by omega)
    · exact g8 y (by omega) (by omega)
    · exact g9 y (by omega) (by omega)
  · exact ⟨fun y _ _ => h y, fun y _ _ => h y, fun y _ _ => h y, fun y _ _ => h y, fun y _ _ => h y, fun y _ _ => h y,
      fun y _ _ => h y, fun y _ _ => h y, fun y _ _ => h y, fun y _ _ => h y⟩

/-- The running maximum after the first point. -/
theorem run_first (c : Dev nD) (t : Fin cfg0.N) (h0 : t.val % 64 = 0) :
    (outsAt0 m c t.val t.isLt).2.2.2.2.1 = sweep (iblk m c 3 t) (k0_pay5 (F := Ideal)) := by
  funext z
  rw [outsAt0_A m c t h0 (by omega)]
  frame_out
  simp only [pay13_eq, pay18_eq, pay22_eq, pay31_eq, pay36_eq, pay42_eq, pay46_eq, pay51_eq, pay27_eq]
  rfl

/-- The running maximum after a later point. -/
theorem run_next (c : Dev nD) (t : Fin cfg0.N) (h0 : ¬t.val % 64 = 0) :
    (outsAt0 m c t.val t.isLt).2.2.2.2.1
      = sweep (iblk m c 3 t) (outsAt0 m c (t.val - 1) (Nat.lt_of_le_of_lt (Nat.sub_le _ _) t.isLt)).2.2.2.2.1 := by
  funext z
  by_cases h1 : t.val % 64 = 63
  · rw [outsAt0_C m c t h0 h1]
    frame_out
    simp only [pay13_eq, pay18_eq, pay22_eq, pay31_eq, pay36_eq, pay42_eq, pay46_eq, pay51_eq, pay27_eq, read_unread_whole]
    rfl
  · rw [outsAt0_B m c t h0 h1]
    frame_out
    simp only [pay13_eq, pay18_eq, pay22_eq, pay31_eq, pay36_eq, pay42_eq, pay46_eq, pay51_eq, pay27_eq, read_unread_whole]
    rfl

/-- The last point stores the greatest of the running maxima. -/
theorem amax_stored (c : Dev nD) (t : Fin cfg0.N) (h1 : t.val % 64 = 63) (i : S1.Idx) :
    (outsAt0 m c t.val t.isLt).2.1 i = k0_pay3 (F := Ideal) (outsAt0 m c t.val t.isLt).2.2.2.2.1 := by
  rw [run_next m c t (by omega), outsAt0_C m c t (by omega) h1]
  frame_out
  simp only [pay13_eq, pay18_eq, pay22_eq, pay31_eq, pay36_eq, pay42_eq, pay46_eq, pay51_eq, pay27_eq, read_unread_whole]
  rfl

/-- The running maximum after `n` lies under a bound when the bound is at least zero and every magnitude met so far is under it. -/
theorem run_le (c : Dev nD) (b : EReal) (n : ℕ) : ∀ hn : n < cfg0.N,
    (∀ z : S16x512.Idx, (show EReal from (outsAt0 m c n hn).2.2.2.2.1 z) ≤ b)
      ↔ 0 ≤ b ∧ ∀ p : Fin cfg0.N, p.val ≤ n → ∀ y : S512x5120.Idx, mag (iblk m c 3 p y) ≤ b := by
  induction n with
  | zero =>
    intro hn
    have e := run_first m c ⟨0, hn⟩ rfl
    rw [show (outsAt0 m c 0 hn).2.2.2.2.1 = _ from e, sweep_le]
    have hz (z : S16x512.Idx) : (show EReal from k0_pay5 (F := Ideal) z) = 0 := by pointwise [k0_pay5]
    simp only [hz]
    refine and_congr ⟨fun h => h (ix2 0 0), fun h _ => h⟩ ⟨fun h p hp => ?_, fun h => h ⟨0, hn⟩ le_rfl⟩
    obtain rfl : p = ⟨0, hn⟩ := Fin.ext (Nat.le_zero.mp hp)
    exact h
  | succ n ih =>
    intro hn
    have hN : cfg0.N = 64 := N_0
    have e := run_next m c ⟨n + 1, hn⟩ (by show ¬(n + 1) % 64 = 0; omega)
    rw [show (outsAt0 m c (n + 1) hn).2.2.2.2.1 = _ from e, sweep_le]
    have i := ih (Nat.lt_of_succ_lt hn)
    refine (and_congr_left' i).trans ?_
    rw [and_assoc]
    refine and_congr_right fun _ => ⟨fun h p hp => ?_, fun h => ⟨fun p hp => h p (Nat.le_succ_of_le hp), h ⟨n + 1, hn⟩ le_rfl⟩⟩
    rcases Nat.lt_or_ge n p.val with hlt | hge
    · obtain rfl : p = ⟨n + 1, hn⟩ := Fin.ext (le_antisymm hp hlt)
      exact h.2
    · exact h.1 p hge

/-- The greatest magnitude as point `n` would store it. -/
def greatestAt (c : Dev nD) (n : ℕ) (hn : n < cfg0.N) : EReal := k0_pay3 (F := Ideal) (outsAt0 m c n hn).2.2.2.2.1

/-- The greatest magnitude as the kernel's last point stores it. -/
def greatest (c : Dev nD) : EReal := greatestAt m c 63 last_lt

/-- A block's entry is the gradient's. -/
theorem block_entry (c : Dev nD) (p : Fin cfg0.N) (y : S512x5120.Idx) (u : S32768x5120.Idx) (h0 : (u 0).val = p.val * 512 + (y 0).val)
    (h1 : (u 1).val = (y 1).val) : mag (iblk m c 3 p y) = mag (gradient m c u) :=
  congrArg mag (by blk_ext [iblk, idx p])

/-- At the last point the greatest magnitude lies under a bound exactly when 0 and every magnitude of the gradient do. -/
theorem greatestAt_le (c : Dev nD) (b : EReal) (n : ℕ) (hn : n < cfg0.N) (e : n = 63) :
    greatestAt m c n hn ≤ b ↔ 0 ≤ b ∧ ∀ y : S32768x5120.Idx, mag (gradient m c y) ≤ b := by
  refine (pay3_le _ b).trans ((run_le m c b n hn).trans (and_congr_right fun _ => ?_))
  have hN : cfg0.N = 64 := N_0
  constructor
  · intro h u
    have hu : (u 0).val < 32768 := (u 0).isLt
    have hq : (u 0).val / 512 < cfg0.N := by omega
    exact (le_of_eq (block_entry m c ⟨(u 0).val / 512, hq⟩ (ix2 ⟨(u 0).val % 512, Nat.mod_lt _ (by decide)⟩ (u 1)) u
      (by show (u 0).val = (u 0).val / 512 * 512 + (u 0).val % 512; omega) rfl).symm).trans (h _ (by show (u 0).val / 512 ≤ n; omega) _)
  · intro h p _ y
    have hp : p.val < 64 := lt_of_lt_of_eq p.isLt hN
    have hy : (y 0).val < 512 := (y 0).isLt
    exact (le_of_eq (block_entry m c p y (ix2 ⟨p.val * 512 + (y 0).val, by omega⟩ (y 1)) rfl rfl)).trans (h _)

/-- It lies under a bound exactly when the bound is at least zero and every magnitude of the gradient is under it. -/
theorem greatest_le (c : Dev nD) (b : EReal) : greatest m c ≤ b ↔ 0 ≤ b ∧ ∀ y : S32768x5120.Idx, mag (gradient m c y) ≤ b :=
  greatestAt_le m c b 63 last_lt rfl

/-- At the last point the value stored is `greatest`. -/
theorem greatestAt_eq (c : Dev nD) (n : ℕ) (hn : n < cfg0.N) (e : n = 63) : greatestAt m c n hn = greatest m c := by
  subst e
  rw [greatest]

/-- amax after the run. -/
theorem amax_final (c : Dev nD) : (dats m 0 c).arrAt 7 cfg0.N = fun _ : S1.Idx => greatest m c := by
  refine (dats m 0 c).arrAt_eq_of_covers 7 _ (by decide +kernel) fun t hf y => ?_
  have ht : t.val % 64 = 63 := (flush0_7 t).mp hf
  have htt : t.val = 63 := by have h64 : t.val < 64 := lt_of_lt_of_eq t.isLt N_0; omega
  blk_simp
  rw [after0_7]
  exact (amax_stored m c t ht y).trans (greatestAt_eq m c t.val t.isLt htt)
end Cert.KernelIdeal.Value
end
-- ==== Proof.RefValue.lean ====
/- The reference's four computed arrays after its run, over what its region reads. -/
module
public import proofs.«01_k».proof.Proof.Gen.ReferenceIdeal.Value
public import proofs.«01_k».proof.Proof.KernelAmax
public import Idealize.ShloMosaic.Lib.Pipeline.ValueKit
public import Idealize.ShloMosaic.Lib.Pipeline.ReadBack
public import Idealize.ShloMosaic.Lib.Pointwise
public import Idealize.ShloMosaic.Lib.ValueIdx
@[expose] public section
set_option maxRecDepth 16384
noncomputable section
namespace Cert.ReferenceIdeal.Value
open Cert.ReferenceIdeal Cert.ReferenceIdeal.Gen Idealize.ShloMosaic Idealize.ShloMosaic.TcCoe Idealize.SL.Sem
open Cert.KernelIdeal.Value (mag bot32)
variable (m : (ℓ : Loc nD τ sig) → Buf (Elt Ideal) ℓ)

/-- The gradient the reference reads. -/
abbrev gradient (c : Dev nD) : FVec Ideal S32768x5120 .bf16 := V m c main_v37
/-- The layer's inputs the reference reads. -/
abbrev inputs (c : Dev nD) : FVec Ideal S32768x1280 .fp8e4m3 := V m c main_v38
/-- The inverse scale the reference reads. -/
abbrev invScale (c : Dev nD) : EReal := (V m c main_v29 : FVec Ideal S1 .f32) (ix1 0)
/-- The scale the reference reads. -/
abbrev scale (c : Dev nD) : EReal := (V m c main_v36 : FVec Ideal S1 .f32) (ix1 0)
/-- The scale of the inputs. -/
abbrev inScale (c : Dev nD) : EReal := (V m c main_arg2 : FVec Ideal S1 .f32) (ix1 0)
/-- The scale of the weights. -/
abbrev wScale (c : Dev nD) : EReal := (V m c main_arg4 : FVec Ideal S1 .f32) (ix1 0)

/-- An entry of the stored codes. -/
theorem pay2_at (X : FVec Ideal S32768x5120 .bf16) (s : EReal) (y : S32768x5120.Idx) :
    (show EReal from k0_pay2 (F := Ideal) X s y) = code (X y) s := by
  pointwise [k0_pay2, k0_pay1, code]

/-- An entry of the stored dx. -/
theorem pay4_at (X : FVec Ideal S32768x5120 .bf16) (s : EReal) (W : FVec Ideal S1280x5120 .fp8e4m3) (a b : EReal) (y : S32768x1280.Idx) :
    (show EReal from k0_pay4 (F := Ideal) X s W a b y)
      = (∑ k : Fin 5120, code (X (ix2 (y 0) k)) s * W (ix2 (y 1) k)) * (a * b) := by
  pointwise [k0_pay4, k0_pay2, k0_pay1, code]

/-- An entry of the stored dw. -/
theorem pay5_at (X : FVec Ideal S32768x5120 .bf16) (s : EReal) (I : FVec Ideal S32768x1280 .fp8e4m3) (a b : EReal) (y : S1280x5120.Idx) :
    (show EReal from k0_pay5 (F := Ideal) X s I a b y)
      = (∑ n : Fin 32768, I (ix2 n (y 0)) * code (X (ix2 n (y 1))) s) * (a * b) := by
  pointwise [k0_pay5, k0_pay2, k0_pay1, code]

/-- The stored greatest magnitude lies under a bound exactly when every magnitude does. -/
theorem pay3_le (X : FVec Ideal S32768x5120 .bf16) (b : EReal) :
    (show EReal from k0_pay3 (F := Ideal) X) ≤ b ↔ ∀ y : S32768x5120.Idx, mag (X y) ≤ b := by
  have hz : (show EReal from k0_pay3 (F := Ideal) X) = Finset.univ.fold max (⊥ : EReal) fun x : Fin 32768 × Fin 5120 => mag (X (ix2 x.1 x.2)) := by
    rw [← bot32]
    pointwise [k0_pay3, k0_pay1]
    rfl
  rw [hz]
  simp only [Finset.fold_max_le, bot_le, true_and, Finset.mem_univ, true_implies]
  refine ⟨fun h z => ?_, fun h z => h _⟩
  have hz : ix2 (z 0) (z 1) = z := by
    refine funext fun a => Fin.cases rfl (fun i => ?_) a
    obtain rfl : i = 0 := Subsingleton.elim _ _
    rfl
  rw [← hz]
  exact h (z 0, z 1)

/-- The windows' block indices at the one grid point. -/
theorem idx : win0_0.index t0_0 = ![0] ∧ win0_1.index t0_0 = ![0] ∧ win0_2.index t0_0 = ![0] ∧ win0_3.index t0_0 = ![0]
    ∧ win0_4.index t0_0 = ![0, 0] ∧ win0_5.index t0_0 = ![0, 0] ∧ win0_6.index t0_0 = ![0, 0] := by decide +kernel

/-! The one grid point's blocks are the whole arrays. -/

/-- The gradient's block is the gradient. -/
theorem blk_gradient (c : Dev nD) : iblk m c 4 t0_0 = gradient m c := by
  funext y
  blk_ext [iblk, idx]
/-- The inputs' block is the inputs. -/
theorem blk_inputs (c : Dev nD) : iblk m c 5 t0_0 = inputs m c := by
  funext y
  blk_ext [iblk, idx]
/-- The weights' block is the weights. -/
theorem blk_weights (c : Dev nD) : iblk m c 6 t0_0 = V m c main_arg3 := by
  funext y
  blk_ext [iblk, idx]
/-- The inverse scale's block is the inverse scale. -/
theorem blk_inv (c : Dev nD) (i : S1.Idx) : iblk m c 0 t0_0 i = invScale m c := by
  blk_ext [iblk, idx]
/-- The scale's block is the scale. -/
theorem blk_scale (c : Dev nD) (i : S1.Idx) : iblk m c 1 t0_0 i = scale m c := by
  blk_ext [iblk, idx]
/-- The block of the inputs' scale is that scale. -/
theorem blk_inScale (c : Dev nD) (i : S1.Idx) : iblk m c 2 t0_0 i = inScale m c := by
  blk_ext [iblk, idx]
/-- The block of the weights' scale is that scale. -/
theorem blk_wScale (c : Dev nD) (i : S1.Idx) : iblk m c 3 t0_0 i = wScale m c := by
  blk_ext [iblk, idx]

/-- dx after the run: the product of the codes with the weights, times the two scales. -/
theorem dx_final (c : Dev nD) : (dats m 0 c).arrAt 7 cfg0.N = fun y : S32768x1280.Idx =>
    (∑ k : Fin 5120, code (gradient m c (ix2 (y 0) k)) (invScale m c) * (V m c main_arg3 : FVec Ideal S1280x5120 .fp8e4m3) (ix2 (y 1) k))
      * (scale m c * wScale m c) := by
  refine (dats m 0 c).arrAt_eq_of_after_last 7 t0_0 (by decide +kernel) _ fun j => ?_
  blk_simp
  rw [after0_7]
  unfold outsAt0
  frame_out
  simp only [read_unread_whole]
  rw [blk_gradient, blk_weights, blk_inv, blk_scale, blk_wScale]
  exact pay4_at _ _ _ _ _ _

/-- dw after the run: the product of the inputs with the codes, times the two scales. -/
theorem dw_final (c : Dev nD) : (dats m 0 c).arrAt 8 cfg0.N = fun y : S1280x5120.Idx =>
    (∑ n : Fin 32768, inputs m c (ix2 n (y 0)) * code (gradient m c (ix2 n (y 1))) (invScale m c)) * (inScale m c * scale m c) := by
  refine (dats m 0 c).arrAt_eq_of_after_last 8 t0_0 (by decide +kernel) _ fun j => ?_
  blk_simp
  rw [after0_8]
  unfold outsAt0
  frame_out
  simp only [read_unread_whole]
  rw [blk_gradient, blk_inputs, blk_inv, blk_scale, blk_inScale]
  exact pay5_at _ _ _ _ _ _

/-- The greatest magnitude of the gradient. -/
abbrev greatest (c : Dev nD) : EReal := k0_pay3 (F := Ideal) (gradient m c)

/-- The greatest magnitude after the run. -/
theorem amax_final (c : Dev nD) : (dats m 0 c).arrAt 9 cfg0.N = fun _ : S1.Idx => greatest m c := by
  refine (dats m 0 c).arrAt_eq_of_after_last 9 t0_0 (by decide +kernel) _ fun j => ?_
  blk_simp
  rw [after0_9]
  unfold outsAt0
  frame_out
  simp only [read_unread_whole]
  rw [blk_gradient]

/-- The codes after the run: every entry is the code of the gradient's entry. -/
theorem codes_final (c : Dev nD) : (dats m 0 c).arrAt 10 cfg0.N = fun y : S32768x5120.Idx => code (gradient m c y) (invScale m c) := by
  refine (dats m 0 c).arrAt_eq_of_after_last 10 t0_0 (by decide +kernel) _ fun j => ?_
  blk_simp
  rw [after0_10]
  unfold outsAt0
  frame_out
  simp only [read_unread_whole]
  rw [blk_gradient, blk_inv]
  exact pay2_at _ _ _

end Cert.ReferenceIdeal.Value
end
-- ==== Proof.Exponent.lean ====
/- The mathematics of the power-of-two scale: two ways of computing the binary exponent of a nonnegative
   extended real (counting the powers of two below it; taking the greatest of them) agree, and two ways of
   computing `2 ^ e` for a machine integer `e` (building the f32 pattern; the power, cut off outside the f32
   exponent range) agree. Nothing here mentions a program. -/
module

public import Idealize.ShloMosaic.Lib.Pipeline.ValueKit
public import Idealize.ShloMosaic.Lib.IndicatorCount
public import Idealize.ShloMosaic.Lib.SortNet.Extract
public import Idealize.ShloMosaic.Lib.IdealHost

@[expose] public section

set_option maxRecDepth 16384

noncomputable section

namespace Cert.Exponent

open Idealize.ShloMosaic

/-! ## Powers of two as f32 patterns -/

/-- The sign, exponent and fraction fields of the word `b <<< 23`. -/
theorem fields : ∀ b : Fin 256, ((BitVec.ofNat 32 b <<< 23).extractLsb' 31 1 == 1#1) = false
    ∧ ((BitVec.ofNat 32 b <<< 23).extractLsb' 23 8).toNat = b
    ∧ ((BitVec.ofNat 32 b <<< 23).extractLsb' 0 23).toNat = 0 := by decide +kernel

/-- The f32 pattern with exponent field `b` and no fraction denotes `2 ^ (b - 127)` for a normal `b`. -/
theorem ofBits_normal (b : ℕ) (h1 : 1 ≤ b) (h2 : b ≤ 254) :
    Ideal.ofBits .f32 (BitVec.ofNat 32 b <<< 23) = (((2 : ℝ) ^ ((b : ℤ) - 127) : ℝ) : EReal) := by
  obtain ⟨f1, f2, f3⟩ := fields ⟨b, by omega⟩
  dsimp only at f1 f2 f3
  have e1 : ¬ (b = 255) := by omega
  have e2 : ¬ (b = 0) := by omega
  unfold Ideal.ofBits Ideal.ieee
  simp only [f1, f2, f3, Nat.reduceAdd, Nat.reducePow, Nat.reduceSub, e1, e2, if_false, Bool.false_eq_true]
  have h : ((b : ℤ) - 127) = (23 : ℤ) + ((b : ℤ) - (2 ^ 7 - 1) - (23 : ℕ)) := by norm_num
  have e23 : (1 : ℝ) * ((8388608 + 0 : ℕ) : ℝ) = (2 : ℝ) ^ (23 : ℤ) := by norm_num
  rw [h, zpow_add₀ (by norm_num), e23]

/-- The zero pattern. -/
theorem ofBits_zero : Ideal.ofBits .f32 (BitVec.ofNat 32 0 <<< 23) = 0 := by
  obtain ⟨f1, f2, f3⟩ := fields ⟨0, by omega⟩
  unfold Ideal.ofBits Ideal.ieee
  simp only [f1, f2, f3]
  norm_num

/-- The infinity pattern. -/
theorem ofBits_top : Ideal.ofBits .f32 (BitVec.ofNat 32 255 <<< 23) = ⊤ := by
  obtain ⟨f1, f2, f3⟩ := fields ⟨255, by omega⟩
  unfold Ideal.ofBits Ideal.ieee
  simp only [f1, f2, f3]
  norm_num

/-- The denoted values grow with the exponent field. -/
theorem ofBits_mono (a b : ℕ) (h1 : 1 ≤ a) (hab : a ≤ b) (h2 : b ≤ 255) :
    Ideal.ofBits .f32 (BitVec.ofNat 32 a <<< 23) ≤ Ideal.ofBits .f32 (BitVec.ofNat 32 b <<< 23) := by
  rcases Nat.lt_or_ge b 255 with hb | hb
  · rw [ofBits_normal a h1 (by omega), ofBits_normal b (by omega) (by omega)]
    exact EReal.coe_le_coe_iff.mpr (zpow_le_zpow_right₀ (by norm_num) (by omega))
  · have : b = 255 := by omega
    rw [this, ofBits_top]; exact le_top

/-! ## The exponent -/

/-- The number of powers of two `2 ^ (-126), …, 2 ^ 127, ⊤` that are at most `y`. -/
def rank (y : EReal) : ℕ :=
  (Finset.univ.filter fun j : Fin 255 => Ideal.ofBits .f32 (BitVec.ofNat 32 (j + 1) <<< 23) ≤ y).card

/-- In a downward closed family the members are the first ones, as many as the family has. -/
theorem card_downset (n : ℕ) (p : Fin n → Prop) [DecidablePred p] (hp : ∀ i j : Fin n, i ≤ j → p j → p i) (j : Fin n) :
    p j ↔ (j : ℕ) < (Finset.univ.filter p).card := by
  constructor
  · intro h
    have hs : (Finset.univ.filter fun i : Fin n => i ≤ j) ⊆ Finset.univ.filter p := fun i hi =>
      Finset.mem_filter.mpr ⟨Finset.mem_univ _, hp i j (Finset.mem_filter.mp hi).2 h⟩
    have hc := Finset.card_le_card hs
    have : (Finset.univ.filter fun i : Fin n => i ≤ j) = Finset.Iic j := by ext; simp
    rw [this, Fin.card_Iic] at hc
    omega
  · intro h
    by_contra hn
    have hs : Finset.univ.filter p ⊆ (Finset.univ.filter fun i : Fin n => i < j) := fun i hi =>
      Finset.mem_filter.mpr ⟨Finset.mem_univ _, by
        by_contra hij
        exact hn (hp j i (not_lt.mp hij) (Finset.mem_filter.mp hi).2)⟩
    have hc := Finset.card_le_card hs
    have : (Finset.univ.filter fun i : Fin n => i < j) = Finset.Iio j := by ext; simp
    rw [this, Fin.card_Iio] at hc
    omega

/-- The power with exponent field `j + 1` is at most `y` exactly when `j` is below the rank. -/
theorem le_iff_lt_rank (y : EReal) (j : ℕ) (hj : j < 255) :
    Ideal.ofBits .f32 (BitVec.ofNat 32 (j + 1) <<< 23) ≤ y ↔ j < rank y :=
  card_downset 255 (fun j : Fin 255 => Ideal.ofBits .f32 (BitVec.ofNat 32 (j + 1) <<< 23) ≤ y)
    (fun a b hab h => (ofBits_mono _ _ (by omega) (by have := hab; omega) (by omega)).trans h) ⟨j, hj⟩

/-- The rank is at most 255. -/
theorem rank_le (y : EReal) : rank y ≤ 255 := by
  have := Finset.card_filter_le (Finset.univ : Finset (Fin 255)) (fun j => Ideal.ofBits .f32 (BitVec.ofNat 32 (j + 1) <<< 23) ≤ y)
  simpa [rank] using this

/-- A value lies below the least normal number exactly when its rank is 0. -/
theorem lt_min_iff (y : EReal) : y < Ideal.ofBits .f32 0x00800000#32 ↔ rank y = 0 := by
  have h := le_iff_lt_rank y 0 (by omega)
  have e : (0x00800000#32 : BitVec 32) = BitVec.ofNat 32 (0 + 1) <<< 23 := by decide
  rw [e, ← not_le, h]; omega

/-- A value is infinite exactly when its rank is 255. -/
theorem eq_top_iff (y : EReal) : y = Ideal.ofBits .f32 0x7F800000#32 ↔ rank y = 255 := by
  have h := le_iff_lt_rank y 254 (by omega)
  have e : (0x7F800000#32 : BitVec 32) = BitVec.ofNat 32 (254 + 1) <<< 23 := by decide
  have hr := rank_le y
  have ht : Ideal.ofBits .f32 (BitVec.ofNat 32 (254 + 1) <<< 23) = ⊤ := ofBits_top
  rw [e, ht]
  rw [ht] at h
  constructor
  · intro hy; have := h.mp hy.ge; omega
  · intro hy; exact top_le_iff.mp (h.mpr (by omega))

/-- Counting: the fold that adds up the comparisons' bits is the rank. -/
theorem fold_count (y : EReal) (T : Fin 255 → EReal) (hT : ∀ j : Fin 255, T j = Ideal.ofBits .f32 (BitVec.ofNat 32 (j + 1) <<< 23)) :
    (Finset.univ : Finset (Fin 255)).fold IntOp.addi (0#32) (fun j => (Ideal.cmp .oge y (T j)).setWidth 32) = BitVec.ofNat 32 (rank y) := by
  rw [IndicatorCount.fold_addi_setWidth_eq_card (fun j => Ideal.cmp .oge y (T j))]
  unfold rank
  congr 3
  funext j
  rw [hT]
  simp only [Ideal.cmp, eq_iff_iff]
  by_cases h : Ideal.ofBits .f32 (BitVec.ofNat 32 (j + 1) <<< 23) ≤ y <;> simp [h]

/-- Taking the greatest: the fold of the signed maximum over the exponents of the powers at most `y` is
    the rank's own exponent. -/
theorem fold_max (y : EReal) (g : Fin 254 → BitVec 32)
    (hg : ∀ j : Fin 254, g j = if Ideal.ofBits .f32 (BitVec.ofNat 32 (j + 1) <<< 23) ≤ y then BitVec.ofNat 32 (2 ^ 32 - 126 + j) else 4294967169#32)
    (h1 : 1 ≤ rank y) (h2 : rank y ≤ 254) :
    (Finset.univ : Finset (Fin 254)).fold IntOp.maxsi (2147483648#32) g = BitVec.ofNat 32 (2 ^ 32 - 127 + rank y) := by
  classical
  have key : ∀ n : Fin 255, (BitVec.ofNat 32 (2 ^ 32 - 127 + n)).toInt = (n : ℤ) - 127 := by decide +kernel
  have hgt : ∀ j : Fin 254, (g j).toInt = if (j : ℕ) < rank y then (j : ℤ) - 126 else -127 := by
    intro j
    rw [hg j]
    have hj := j.isLt
    have hi := le_iff_lt_rank y j (by omega)
    by_cases h : (j : ℕ) < rank y
    · rw [if_pos (hi.mpr h), if_pos h]
      have := key ⟨j + 1, by omega⟩
      have e : (2 ^ 32 - 127 + ((⟨(j : ℕ) + 1, by omega⟩ : Fin 255) : ℕ)) = 2 ^ 32 - 126 + (j : ℕ) := by
        show 2 ^ 32 - 127 + ((j : ℕ) + 1) = _; omega
      rw [e] at this
      rw [this]; push_cast; ring
    · rw [if_neg (fun hh => h (hi.mp hh)), if_neg h]; decide
  obtain ⟨-, hb, hc⟩ := Idealize.ShloMosaic.SortNet.fold_maxsi_spec g Finset.univ 2147483648#32
  have hlow := hb ⟨rank y - 1, by omega⟩ (Finset.mem_univ _)
  rw [hgt] at hlow
  have hlt : rank y - 1 < rank y := by omega
  rw [if_pos (show ((⟨rank y - 1, by omega⟩ : Fin 254) : ℕ) < rank y from hlt)] at hlow
  have hlow' : ((rank y : ℤ) - 127) ≤ ((Finset.univ : Finset (Fin 254)).fold IntOp.maxsi (2147483648#32) g).toInt := by
    refine le_trans ?_ hlow
    show _ ≤ (((rank y - 1 : ℕ) : ℤ)) - 126
    omega
  apply BitVec.eq_of_toInt_eq
  rw [show 2 ^ 32 - 127 + rank y = 2 ^ 32 - 127 + ((⟨rank y, by omega⟩ : Fin 255) : ℕ) from rfl, key]
  show _ = (rank y : ℤ) - 127
  refine le_antisymm ?_ hlow'
  rcases hc with hc | ⟨i, -, hi⟩
  · rw [hc] at hlow'
    have : (2147483648#32 : BitVec 32).toInt = -2147483648 := by decide
    omega
  · rw [hi, hgt]
    split <;> omega

/-- The exponent as a word: zero for a magnitude below the normal range or infinite. -/
def expoWord (y : EReal) : BitVec 32 :=
  if rank y = 0 ∨ rank y = 255 then 0#32 else BitVec.ofNat 32 (2 ^ 32 - 126 + rank y)

/-! ## The power -/

/-- The exponent word's family: the words of the integers `-128 … 128`. -/
def word (n : ℕ) : BitVec 32 := BitVec.ofNat 32 (2 ^ 32 - 128 + n)

/-- The integer a word of the family denotes, and the exponent field it clips to. -/
theorem word_facts : ∀ n : Fin 257, (word n).toInt = (n : ℤ) - 128
    ∧ IntOp.minsi 255#32 (IntOp.maxsi 0#32 (word n + 127#32)) = BitVec.ofNat 32 (n - 1) := by decide +kernel

/-- Both the exponent word and its negative lie in the family. -/
theorem expo_facts : ∀ r : Fin 256, (∃ n : Fin 257, (if (r : ℕ) = 0 ∨ (r : ℕ) = 255 then 0#32 else BitVec.ofNat 32 (2 ^ 32 - 126 + r)) = word n)
    ∧ (∃ n : Fin 257, -(if (r : ℕ) = 0 ∨ (r : ℕ) = 255 then 0#32 else BitVec.ofNat 32 (2 ^ 32 - 126 + r)) = word n) := by
  intro r
  by_cases h : (r : ℕ) = 0 ∨ (r : ℕ) = 255
  · rw [if_pos h]; exact ⟨⟨128, by decide⟩, ⟨128, by decide⟩⟩
  · rw [if_neg h]
    exact ⟨⟨⟨r + 2, by omega⟩, (by decide +kernel : ∀ r : Fin 255, BitVec.ofNat 32 (2 ^ 32 - 126 + r) = word (r + 2)) ⟨r, by omega⟩⟩,
      ⟨⟨254 - r, by omega⟩, (by decide +kernel : ∀ r : Fin 255, -BitVec.ofNat 32 (2 ^ 32 - 126 + r) = word (254 - r)) ⟨r, by omega⟩⟩⟩

/-- Building the pattern of `2 ^ e` from the clipped biased exponent gives the power, zero below the f32
    exponents (subnormal powers included) and infinity above them. -/
theorem pow_word (n : Fin 257) :
    Ideal.ofBits .f32 (IntOp.minsi 255#32 (IntOp.maxsi 0#32 (word n + 127#32)) <<< 23)
      = if (word n).toInt < -126 then 0 else if 127 < (word n).toInt then ⊤ else (((2 : ℝ) ^ (word n).toInt : ℝ) : EReal) := by
  obtain ⟨h1, h2⟩ := word_facts n
  rw [h1, h2]
  have hn := n.isLt
  by_cases ha : (n : ℕ) ≤ 1
  · rw [if_pos (by omega), show (n : ℕ) - 1 = 0 by omega, ofBits_zero]
  · rw [if_neg (by omega)]
    by_cases hb : (n : ℕ) = 256
    · rw [if_pos (by omega), show (n : ℕ) - 1 = 255 by omega, ofBits_top]
    · rw [if_neg (by omega), ofBits_normal _ (by omega) (by omega)]
      congr 2
      omega

end Cert.Exponent

end
-- ==== Proof.KernelScale.lean ====
/- The kernel's host lines: what they compute from the arguments before the region. -/
module
public import proofs.«01_k».proof.Proof.KernelAmax
public import proofs.«01_k».proof.Proof.Exponent
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.RunClose
@[expose] public section
set_option maxRecDepth 16384
noncomputable section

namespace Cert
open Idealize.ShloMosaic Cert.Exponent

/-- The exponent of the scale for the greatest magnitude `a` of the history. -/
def expo (a : EReal) : BitVec 32 :=
  if a = 0 then 0#32 else expoWord (max (a * Ideal.ofBits .f32 0x3B124925#32) (-(a * Ideal.ofBits .f32 0x3B124925#32)))

/-- The power of two of an exponent: 0 below the normal range, infinite above it. -/
def power (w : BitVec 32) : EReal :=
  if w.toInt < -126 then 0 else if 127 < w.toInt then ⊤ else (((2 : ℝ) ^ w.toInt : ℝ) : EReal)

/-- The scale's exponent lies in the family of words. -/
theorem expo_word (a : EReal) : ∃ n : Fin 257, expo a = word n := by
  unfold expo
  split
  · exact ⟨128, by decide⟩
  · exact (expo_facts ⟨rank _, Nat.lt_succ_of_le (rank_le _)⟩).1

/-- So does its negative. -/
theorem expo_neg_word (a : EReal) : ∃ n : Fin 257, -expo a = word n := by
  unfold expo
  split
  · exact ⟨128, by decide⟩
  · exact (expo_facts ⟨rank _, Nat.lt_succ_of_le (rank_le _)⟩).2

end Cert

namespace Cert.KernelIdeal.Value
open Cert.KernelIdeal Cert.KernelIdeal.Gen Idealize.ShloMosaic Idealize.ShloMosaic.TcCoe Idealize.SL.Sem
open Cert.Exponent (rank word)
variable (m : (ℓ : Loc nD τ sig) → Buf (Elt Ideal) ℓ)

/-- The greatest entry of the history. -/
def history (h : FVec Ideal S16 .f32) : FVec Ideal S_ .f32 :=
  Host.reduce FloatOps.maximumf h (constant S_ .f32 0xFF800000#32) reducesTo_S16_S_d0 h_S_

/-- The history's greatest entry divided by the codes' range. -/
def target (a : FVec Ideal S_ .f32) : FVec Ideal S_ .f32 := mulf a (constant S_ .f32 0x3B124925#32)

/-- How many powers of two the magnitude reaches. -/
def biased (x : FVec Ideal S_ .f32) : Vec Ideal S_ .i32 :=
  Host.reduce IntOp.addi (extui 32 (cmpf .oge (broadcastInDim S255 ![] bcast_S_S255 (Host.absf x))
    (bitcastToFloat .f32 (Host.shli (addi (iotaInDim S255 32 0) (broadcastInDim S255 ![] bcast_S_S255 (constantI S_ 32 1#32)))
      (broadcastInDim S255 ![] bcast_S_S255 (constantI S_ 32 23#32))))) natLt_1_32) (constantI S_ 32 0#32) reducesTo_S255_S_d0 h_S_

/-- The exponent from the count. -/
def exponent (a : FVec Ideal S_ .f32) (b : Vec Ideal S_ .i32) : Vec Ideal S_ .i32 :=
  select (cmpf .oeq a (constant S_ .f32 0x00000000#32)) (constantI S_ 32 0#32)
    (select (ori (cmpi .eq b (constantI S_ 32 0#32)) (cmpi .eq b (constantI S_ 32 255#32))) (constantI S_ 32 0#32)
      (subi b (constantI S_ 32 126#32)))

/-- The power of two with a given exponent, from its exponent field. -/
def powerOf (e : Vec Ideal S_ .i32) : FVec Ideal S_ .f32 :=
  bitcastToFloat .f32 (Host.shli (minsi (constantI S_ 32 255#32) (maxsi (constantI S_ 32 0#32) (addi e (constantI S_ 32 127#32)))) (constantI S_ 32 23#32))

/-- The scale's exponent from the history. -/
def exponentOf (h : FVec Ideal S16 .f32) : Vec Ideal S_ .i32 := exponent (history h) (biased (target (history h)))

/-- The host's table of powers of two holds the exponent fields 1 to 255. -/
theorem shift_facts : ∀ j : Fin 255, IntOp.shli ArithUnit.host (IntOp.addi (BitVec.ofNat 32 j.val) 1#32) 23#32 = BitVec.ofNat 32 (j.val + 1) <<< 23 := by
  decide +kernel

/-- The count over the table is the magnitude's rank. -/
theorem biased_at (x : FVec Ideal S_ .f32) (i : S_.Idx) : biased x i = BitVec.ofNat 32 (rank (mag (x i))) := by
  rw [← Cert.Exponent.fold_count (mag (x i)) (fun j => Ideal.ofBits .f32 (BitVec.ofNat 32 (j + 1) <<< 23)) fun _ => rfl]
  pointwise [biased]
  have hi : i = ix0 := Subsingleton.elim _ _
  simp only [shift_facts, hi]
  rfl

/-- The choice between 0 and the count less 126, for every count. -/
theorem select_facts : ∀ r : Fin 256, Scalar.select (IntOp.ori (IntOp.cmpi CmpIPredicate.eq (BitVec.ofNat 32 r) 0#32)
      (IntOp.cmpi CmpIPredicate.eq (BitVec.ofNat 32 r) 255#32)) (0#32) (IntOp.subi (BitVec.ofNat 32 r) 126#32)
    = if (r : ℕ) = 0 ∨ (r : ℕ) = 255 then 0#32 else BitVec.ofNat 32 (2 ^ 32 - 126 + r) := by decide +kernel

/-- The kernel's exponent is `expo` of the history's greatest entry. -/
theorem exponent_at (h : FVec Ideal S16 .f32) (i : S_.Idx) : exponentOf h i = expo (history h i) := by
  have hb := biased_at (target (history h)) i
  unfold exponentOf
  generalize biased (target (history h)) = b at hb
  generalize history h = a at *
  pointwise [exponent, hb, expo, target]
  refine if_congr Iff.rfl rfl ?_
  exact select_facts ⟨rank (mag (a i * Ideal.ofBits FTy.f32 991054117#32)), Nat.lt_succ_of_le (Cert.Exponent.rank_le _)⟩

/-- The host's shift of a small word by 23. -/
theorem shift_field : ∀ j : Fin 256, IntOp.shli ArithUnit.host (BitVec.ofNat 32 j.val) 23#32 = BitVec.ofNat 32 j.val <<< 23 := by
  decide +kernel

/-- The kernel's power is `power` of the exponent, for the words of the family. -/
theorem powerOf_at (e : Vec Ideal S_ .i32) (i : S_.Idx) (he : ∃ n : Fin 257, e i = word n) : powerOf e i = power (e i) := by
  obtain ⟨n, hn⟩ := he
  rw [hn]
  refine Eq.trans ?_ (Cert.Exponent.pow_word n)
  rw [← hn]
  pointwise [powerOf]
  obtain ⟨_, h2⟩ := Cert.Exponent.word_facts n
  rw [hn]
  refine congrArg _ ?_
  show IntOp.shli ArithUnit.host (IntOp.minsi 255#32 (IntOp.maxsi 0#32 (word n + 127#32))) 23#32 = _
  rw [h2]
  exact shift_field ⟨n - 1, by omega⟩

/-- The inverse scale's buffer at region entry. -/
theorem V_inv (c : Dev nD) : V m c main_v25 = shapeCast S1 (powerOf (negi (exponentOf (m (c, Proc.tc.devRef main_arg5))))) shapeCasts_S_S1 := by
  unfold V
  simp only [List.flatten_cons, List.flatten_nil, List.append_nil, List.cons_append, List.nil_append, StableHlo.after_cons, StableHlo.after_nil]
  after_results_simp
  simp only [StableHlo.TRef.ofBuf_toBuf, StableHlo.TRef.ofBuf, StableHlo.TRef.toBuf, StableHlo.dropContentsCast, id_eq]
  unfold powerOf exponentOf exponent biased target history
  rfl

/-- The scale's buffer at region entry. -/
theorem V_scale (c : Dev nD) : V m c main_v30 = shapeCast S1 (powerOf (exponentOf (m (c, Proc.tc.devRef main_arg5)))) shapeCasts_S_S1 := by
  unfold V
  simp only [List.flatten_cons, List.flatten_nil, List.append_nil, List.cons_append, List.nil_append, StableHlo.after_cons, StableHlo.after_nil]
  after_results_simp
  simp only [StableHlo.TRef.ofBuf_toBuf, StableHlo.TRef.ofBuf, StableHlo.TRef.toBuf, StableHlo.dropContentsCast, id_eq]
  unfold powerOf exponentOf exponent biased target history
  rfl
/-- The buffer of dx's factor at region entry. -/
theorem V_dxFactor (c : Dev nD) : (V m c main_v31 : FVec Ideal S1 .f32)
    = mulf (shapeCast S1 (powerOf (exponentOf (m (c, Proc.tc.devRef main_arg5)))) shapeCasts_S_S1) (m (c, Proc.tc.devRef main_arg4)) := by
  unfold V
  simp only [List.flatten_cons, List.flatten_nil, List.append_nil, List.cons_append, List.nil_append, StableHlo.after_cons, StableHlo.after_nil]
  after_results_simp
  simp only [StableHlo.TRef.ofBuf_toBuf, StableHlo.TRef.ofBuf, StableHlo.TRef.toBuf, StableHlo.dropContentsCast, id_eq]
  unfold powerOf exponentOf exponent biased target history
  rfl

/-- The buffer of dw's factor at region entry. -/
theorem V_dwFactor (c : Dev nD) : (V m c main_v32 : FVec Ideal S1 .f32)
    = mulf (m (c, Proc.tc.devRef main_arg2)) (shapeCast S1 (powerOf (exponentOf (m (c, Proc.tc.devRef main_arg5)))) shapeCasts_S_S1) := by
  unfold V
  simp only [List.flatten_cons, List.flatten_nil, List.append_nil, List.cons_append, List.nil_append, StableHlo.after_cons, StableHlo.after_nil]
  after_results_simp
  simp only [StableHlo.TRef.ofBuf_toBuf, StableHlo.TRef.ofBuf, StableHlo.TRef.toBuf, StableHlo.dropContentsCast, id_eq]
  unfold powerOf exponentOf exponent biased target history
  rfl

/-- The gradient at region entry is the argument, its unit axis dropped. -/
theorem V_gradient (c : Dev nD) : (V m c main_v33 : FVec Ideal S32768x5120 .bf16)
    = shapeCast S32768x5120 (m (c, Proc.tc.devRef main_arg0)) shapeCasts_S1x32768x5120_S32768x5120 := by
  unfold V
  simp only [List.flatten_cons, List.flatten_nil, List.append_nil, List.cons_append, List.nil_append, StableHlo.after_cons, StableHlo.after_nil]
  after_results_simp
  rfl

/-- The inputs at region entry are the argument, its unit axis dropped. -/
theorem V_inputs (c : Dev nD) : (V m c main_v34 : FVec Ideal S32768x1280 .fp8e4m3)
    = shapeCast S32768x1280 (m (c, Proc.tc.devRef main_arg1)) shapeCasts_S1x32768x1280_S32768x1280 := by
  unfold V
  simp only [List.flatten_cons, List.flatten_nil, List.append_nil, List.cons_append, List.nil_append, StableHlo.after_cons, StableHlo.after_nil]
  after_results_simp
  rfl

/-- The weights at region entry are the argument. -/
theorem V_weights (c : Dev nD) : V m c main_arg3 = m (c, Proc.tc.devRef main_arg3) := by
  unfold V
  simp only [List.flatten_cons, List.flatten_nil, List.append_nil, List.cons_append, List.nil_append, StableHlo.after_cons, StableHlo.after_nil]
  after_results_simp

/-! ## The scales' entries -/

/-- The history's greatest entry. -/
abbrev top (c : Dev nD) : EReal := history (m (c, Proc.tc.devRef main_arg5)) ix0

/-- The weights' scale. -/
abbrev wScale (c : Dev nD) : EReal := (m (c, Proc.tc.devRef main_arg4) : FVec Ideal S1 .f32) (ix1 0)

/-- The inputs' scale. -/
abbrev inScale (c : Dev nD) : EReal := (m (c, Proc.tc.devRef main_arg2) : FVec Ideal S1 .f32) (ix1 0)

/-- The power of the scale's exponent. -/
theorem power_at (e : FVec Ideal S16 .f32) (i : S_.Idx) : powerOf (exponentOf e) i = power (expo (history e i)) := by
  rw [← exponent_at]
  exact powerOf_at _ _ (by rw [exponent_at]; exact expo_word _)

/-- The power of the negated exponent. -/
theorem power_neg_at (e : FVec Ideal S16 .f32) (i : S_.Idx) : powerOf (negi (exponentOf e)) i = power (-(expo (history e i))) := by
  have h : negi (exponentOf e) i = -(expo (history e i)) := by
    rw [← exponent_at]
    rfl
  rw [← h]
  exact powerOf_at _ _ (by rw [h]; exact expo_neg_word _)

/-- The kernel's inverse scale. -/
theorem inv_eq (c : Dev nD) : invScale m c = power (-(expo (top m c))) := by
  unfold invScale
  rw [V_inv]
  refine Eq.trans ?_ (power_neg_at (m (c, Proc.tc.devRef main_arg5)) ix0)
  pointwise []

/-- The kernel's scale. -/
theorem scale_eq (c : Dev nD) (i : S1.Idx) : (V m c main_v30 : FVec Ideal S1 .f32) i = power (expo (top m c)) := by
  rw [V_scale]
  refine Eq.trans ?_ (power_at (m (c, Proc.tc.devRef main_arg5)) ix0)
  pointwise []

/-- The factor of dx is the scale times the weights' scale. -/
theorem dxFactor_eq (c : Dev nD) : (V m c main_v31 : FVec Ideal S1 .f32) (ix1 0)
    = power (expo (top m c)) * wScale m c := by
  rw [V_dxFactor, ← power_at]
  pointwise []

/-- The factor of dw is the inputs' scale times the scale. -/
theorem dwFactor_eq (c : Dev nD) : (V m c main_v32 : FVec Ideal S1 .f32) (ix1 0)
    = inScale m c * power (expo (top m c)) := by
  rw [V_dwFactor, ← power_at]
  pointwise []

end Cert.KernelIdeal.Value
end
-- ==== Proof.RefScale.lean ====
/- The reference's host lines: what they compute from the arguments before its region. -/
module
public import proofs.«01_k».proof.Proof.RefValue
public import proofs.«01_k».proof.Proof.KernelScale
public import Idealize.ShloMosaic.Lib.Pipeline.ValueKit
public import Idealize.ShloMosaic.Lib.Pipeline.ReadBack
public import Idealize.ShloMosaic.Lib.Pointwise
public import Idealize.ShloMosaic.Lib.ValueIdx
public import Idealize.ShloMosaic.Lib.StableHlo.RunClose
@[expose] public section
set_option maxRecDepth 16384
noncomputable section

namespace Cert.ReferenceIdeal.Value
open Cert.ReferenceIdeal Cert.ReferenceIdeal.Gen Idealize.ShloMosaic Idealize.ShloMosaic.TcCoe Idealize.SL.Sem
open Cert.Exponent (rank word)
open Cert.KernelIdeal.Value (mag)
variable (m : (ℓ : Loc nD τ sig) → Buf (Elt Ideal) ℓ)

/-- The greatest entry of the history. -/
def history (h : FVec Ideal S16 .f32) : FVec Ideal S_ .f32 :=
  Host.reduce FloatOps.maximumf h (constant S_ .f32 0xFF800000#32) reducesTo_S16_S_d0 h_S_

/-- The history's greatest entry divided by the codes' range. -/
def target (a : FVec Ideal S_ .f32) : FVec Ideal S_ .f32 := mulf a (constant S_ .f32 0x3B124925#32)

/-- The exponents -126 to 127. -/
def exponents : Vec Ideal S254 .i32 := addi (broadcastInDim S254 ![] bcast_S_S254 (constantI S_ 32 4294967170#32)) (iotaInDim S254 32 0)

/-- The greatest exponent whose power of two the magnitude reaches, -127 when it reaches none. -/
def greatestExponent (x : FVec Ideal S_ .f32) : Vec Ideal S_ .i32 :=
  Host.reduce IntOp.maxsi (select (cmpf .ole
      (Host.powf (broadcastInDim S254 ![] bcast_S_S254 (constant S_ .f32 0x40000000#32)) (sitofp .f32 exponents) : FVec Ideal S254 .f32)
      (broadcastInDim S254 ![] bcast_S_S254 (Host.absf x))) exponents (broadcastInDim S254 ![] bcast_S_S254 (constantI S_ 32 4294967169#32)))
    (constantI S_ 32 2147483648#32) reducesTo_S254_S_d0 h_S_

/-- Whether the magnitude is no normal number. -/
def tooSmall (x : FVec Ideal S_ .f32) : Vec Ideal S_ .i1 :=
  ori (cmpf .olt (Host.absf x) (constant S_ .f32 0x00800000#32)) (cmpf .oeq (Host.absf x) (constant S_ .f32 0x7F800000#32))

/-- The exponent of the scale. -/
def exponent (a x : FVec Ideal S_ .f32) : Vec Ideal S_ .i32 :=
  select (cmpf .oeq a (constant S_ .f32 0x00000000#32)) (constantI S_ 32 0#32)
    (select (tooSmall x) (constantI S_ 32 0#32) (addi (constantI S_ 32 1#32) (greatestExponent x)))

/-- The power of two with a given exponent, 0 below the normal range and infinite above it. -/
def powerOf (e : Vec Ideal S_ .i32) : FVec Ideal S_ .f32 :=
  select (cmpi .slt e (constantI S_ 32 4294967170#32)) (constant S_ .f32 0x00000000#32)
    (select (cmpi .sgt e (constantI S_ 32 127#32)) (constant S_ .f32 0x7F800000#32)
      (Host.powf (constant S_ .f32 0x40000000#32) (sitofp .f32 e)))

/-- The scale's exponent from the history. -/
def exponentOf (h : FVec Ideal S16 .f32) : Vec Ideal S_ .i32 := exponent (history h) (target (history h))

/-- The table of exponents holds -126 to 127. -/
theorem exponents_facts : ∀ j : Fin 254, (IntOp.addi 4294967170#32 (BitVec.ofNat 32 j.val)) = BitVec.ofNat 32 (2 ^ 32 - 126 + j)
    ∧ (BitVec.ofNat 32 (2 ^ 32 - 126 + j.val)).toInt = (j : ℤ) - 126 := by decide +kernel

/-- The base of the powers is 2. -/
theorem two : Ideal.ofBits .f32 1073741824#32 = ((2 : ℝ) : EReal) := by
  have e : (1073741824#32 : BitVec 32) = BitVec.ofNat 32 128 <<< 23 := by decide
  rw [e, Cert.Exponent.ofBits_normal 128 (by omega) (by omega)]
  norm_num

/-- The value above the normal range is infinite. -/
theorem infinite : Ideal.ofBits .f32 2139095040#32 = ⊤ := by
  have e : (2139095040#32 : BitVec 32) = BitVec.ofNat 32 255 <<< 23 := by decide
  rw [e, Cert.Exponent.ofBits_top]

/-- Over the reals the host's power of two is the integer power. -/
theorem pow_two (w : BitVec 32) : Ideal.pow (Ideal.ofBits .f32 1073741824#32) ((((w.toInt : ℤ) : ℝ)) : EReal) = (((2 : ℝ) ^ w.toInt : ℝ) : EReal) := by
  rw [two, Ideal.pow_coe_coe]
  exact congrArg _ (Real.rpow_intCast 2 w.toInt)

/-- For a magnitude of rank 1 to 254 the greatest exponent reached is the rank less 127. -/
theorem greatestExponent_at (x : FVec Ideal S_ .f32) (i : S_.Idx) (h1 : 1 ≤ rank (mag (x i))) (h2 : rank (mag (x i)) ≤ 254) :
    greatestExponent x i = BitVec.ofNat 32 (2 ^ 32 - 127 + rank (mag (x i))) := by
  refine Eq.trans ?_ (Cert.Exponent.fold_max (mag (x i)) (fun j => if Ideal.ofBits .f32 (BitVec.ofNat 32 (j + 1) <<< 23) ≤ (mag (x i)) then BitVec.ofNat 32 (2 ^ 32 - 126 + j) else 4294967169#32) (fun _ => rfl) h1 h2)
  pointwise [greatestExponent, exponents]
  have hi : i = ix0 := Subsingleton.elim _ _
  have hp (j : Fin 254) : Ideal.pow (Ideal.ofBits FTy.f32 1073741824#32)
      (FloatOps.sitofp (F := Ideal) FTy.f32 (BitVec.ofNat 32 (2 ^ 32 - 126 + j.val))) = Ideal.ofBits FTy.f32 (BitVec.ofNat 32 (j + 1) <<< 23) := by
    refine (pow_two _).trans ?_
    rw [(exponents_facts j).2, Cert.Exponent.ofBits_normal _ (by omega) (by omega)]
    congr 2
    push_cast
    omega
  simp only [(exponents_facts _).1, hp, hi]
  rfl

/-- One more than the rank less 127 is the rank less 126. -/
theorem adds_one : ∀ r : Fin 255, IntOp.addi (1#32) (BitVec.ofNat 32 (2 ^ 32 - 127 + r.val)) = BitVec.ofNat 32 (2 ^ 32 - 126 + r.val) := by
  decide +kernel

/-- The choice between 0 and the counted exponent is the one on the magnitude's rank. -/
theorem select_at (y : EReal) (b : BitVec 32) (hb : 1 ≤ rank y → rank y ≤ 254 → b = BitVec.ofNat 32 (2 ^ 32 - 127 + rank y)) :
    Scalar.select (IntOp.ori (BitVec.ofBool (decide (y < Ideal.ofBits FTy.f32 8388608#32)))
      (BitVec.ofBool (decide (y = Ideal.ofBits FTy.f32 2139095040#32)))) (0#32) (IntOp.addi (1#32) b) = Cert.Exponent.expoWord y := by
  have hr := Cert.Exponent.rank_le y
  unfold Cert.Exponent.expoWord
  simp only [Cert.Exponent.lt_min_iff, Cert.Exponent.eq_top_iff]
  by_cases h0 : rank y = 0
  · simp [h0, Scalar.select, IntOp.ori]
  · by_cases h1 : rank y = 255
    · simp [h1, Scalar.select, IntOp.ori]
    · rw [if_neg (by omega), hb (by omega) (by omega), ← adds_one ⟨rank y, by omega⟩]
      simp [h0, h1, Scalar.select, IntOp.ori]

/-- The exponent the reference computes, over the rank of the magnitude. -/
theorem exponent_of (a x : FVec Ideal S_ .f32) (i : S_.Idx) : exponent a x i = if a i = 0 then 0#32 else Cert.Exponent.expoWord (mag (x i)) := by
  have hb := greatestExponent_at x i
  unfold exponent
  generalize greatestExponent x = b at hb
  pointwise [tooSmall]
  refine if_congr Iff.rfl rfl ?_
  exact select_at _ _ hb

/-- The reference's exponent is `expo` of the history's greatest entry. -/
theorem exponent_at (h : FVec Ideal S16 .f32) (i : S_.Idx) : exponentOf h i = expo (history h i) := by
  unfold exponentOf
  generalize history h = a
  refine (exponent_of a (target a) i).trans ?_
  have ht : target a i = a i * Ideal.ofBits .f32 0x3B124925#32 := rfl
  rw [ht]
  rfl

/-- The reference's power is `power` of the exponent. -/
theorem powerOf_at (e : Vec Ideal S_ .i32) (i : S_.Idx) : powerOf e i = power (e i) := by
  pointwise [powerOf, power]
  have hp : Ideal.pow (Ideal.ofBits FTy.f32 1073741824#32) (FloatOps.sitofp (F := Ideal) FTy.f32 (e i)) = (((2 : ℝ) ^ BitVec.toInt (e i) : ℝ) : EReal) :=
    pow_two (e i)
  rw [hp, infinite]
  generalize e i = w
  have h1 : IntOp.cmpi CmpIPredicate.slt w 4294967170#32 = BitVec.ofBool (decide (w.toInt < -126)) := rfl
  have h2 : IntOp.cmpi CmpIPredicate.sgt w 127#32 = BitVec.ofBool (decide (127 < w.toInt)) := rfl
  rw [h1, h2]
  by_cases ha : w.toInt < -126
  · simp [ha, Scalar.select]
  · by_cases hb : 127 < w.toInt
    · simp [ha, hb, Scalar.select]
    · simp [ha, hb, Scalar.select]

/-- The inverse scale's buffer at region entry. -/
theorem V_inv (c : Dev nD) : V m c main_v29 = shapeCast S1 (powerOf (negi (exponentOf (m (c, Proc.tc.devRef main_arg5))))) shapeCasts_S_S1 := by
  unfold V
  simp only [List.flatten_cons, List.flatten_nil, List.append_nil, List.cons_append, List.nil_append, StableHlo.after_cons, StableHlo.after_nil]
  after_results_simp
  simp only [StableHlo.TRef.ofBuf_toBuf, StableHlo.TRef.ofBuf, StableHlo.TRef.toBuf, StableHlo.dropContentsCast, id_eq]
  unfold powerOf exponentOf exponent tooSmall greatestExponent exponents target history
  rfl

/-- The scale's buffer at region entry. -/
theorem V_scale (c : Dev nD) : V m c main_v36 = shapeCast S1 (powerOf (exponentOf (m (c, Proc.tc.devRef main_arg5)))) shapeCasts_S_S1 := by
  unfold V
  simp only [List.flatten_cons, List.flatten_nil, List.append_nil, List.cons_append, List.nil_append, StableHlo.after_cons, StableHlo.after_nil]
  after_results_simp
  simp only [StableHlo.TRef.ofBuf_toBuf, StableHlo.TRef.ofBuf, StableHlo.TRef.toBuf, StableHlo.dropContentsCast, id_eq]
  unfold powerOf exponentOf exponent tooSmall greatestExponent exponents target history
  rfl

/-- The gradient at region entry is the argument, its unit axis dropped. -/
theorem V_gradient (c : Dev nD) : (V m c main_v37 : FVec Ideal S32768x5120 .bf16)
    = shapeCast S32768x5120 (m (c, Proc.tc.devRef main_arg0)) shapeCasts_S1x32768x5120_S32768x5120 := by
  unfold V
  simp only [List.flatten_cons, List.flatten_nil, List.append_nil, List.cons_append, List.nil_append, StableHlo.after_cons, StableHlo.after_nil]
  after_results_simp
  rfl

/-- The inputs at region entry are the argument, its unit axis dropped. -/
theorem V_inputs (c : Dev nD) : (V m c main_v38 : FVec Ideal S32768x1280 .fp8e4m3)
    = shapeCast S32768x1280 (m (c, Proc.tc.devRef main_arg1)) shapeCasts_S1x32768x1280_S32768x1280 := by
  unfold V
  simp only [List.flatten_cons, List.flatten_nil, List.append_nil, List.cons_append, List.nil_append, StableHlo.after_cons, StableHlo.after_nil]
  after_results_simp
  rfl

/-- The inputs' scale at region entry is the argument. -/
theorem V_inScale (c : Dev nD) : V m c main_arg2 = m (c, Proc.tc.devRef main_arg2) := by
  unfold V
  simp only [List.flatten_cons, List.flatten_nil, List.append_nil, List.cons_append, List.nil_append, StableHlo.after_cons, StableHlo.after_nil]
  after_results_simp

/-- The weights at region entry are the argument. -/
theorem V_weights (c : Dev nD) : V m c main_arg3 = m (c, Proc.tc.devRef main_arg3) := by
  unfold V
  simp only [List.flatten_cons, List.flatten_nil, List.append_nil, List.cons_append, List.nil_append, StableHlo.after_cons, StableHlo.after_nil]
  after_results_simp

/-- The weights' scale at region entry is the argument. -/
theorem V_wScale (c : Dev nD) : V m c main_arg4 = m (c, Proc.tc.devRef main_arg4) := by
  unfold V
  simp only [List.flatten_cons, List.flatten_nil, List.append_nil, List.cons_append, List.nil_append, StableHlo.after_cons, StableHlo.after_nil]
  after_results_simp

/-! ## The scales' entries -/

/-- The history's greatest entry. -/
abbrev top (c : Dev nD) : EReal := history (m (c, Proc.tc.devRef main_arg5)) ix0

/-- The reference's inverse scale. -/
theorem inv_eq (c : Dev nD) : invScale m c = power (-(expo (top m c))) := by
  unfold invScale
  rw [V_inv, ← exponent_at]
  refine Eq.trans ?_ (powerOf_at (negi (exponentOf (m (c, Proc.tc.devRef main_arg5)))) ix0)
  pointwise []

/-- The reference's scale. -/
theorem scale_eq (c : Dev nD) (i : S1.Idx) : (V m c main_v36 : FVec Ideal S1 .f32) i = power (expo (top m c)) := by
  rw [V_scale, ← exponent_at]
  refine Eq.trans ?_ (powerOf_at (exponentOf (m (c, Proc.tc.devRef main_arg5))) ix0)
  pointwise []

end Cert.ReferenceIdeal.Value
end
-- ==== Proof.Equal.lean ====
/- The kernel's five results are the reference's when the two launch memories agree on the arguments. -/
module
public import proofs.«01_k».proof.Proof.RefScale
public import Idealize.ShloMosaic.Lib.ValueIdx
@[expose] public section
set_option maxRecDepth 16384
noncomputable section

namespace Cert.Equal
open Idealize.ShloMosaic Idealize.ShloMosaic.TcCoe Idealize.SL.Sem
open Cert.KernelIdeal.Value (mag)

/-- A launch memory of the kernel. -/
abbrev KMem := (ℓ : Loc Cert.KernelIdeal.nD Cert.KernelIdeal.τ Cert.KernelIdeal.sig) → Buf (Elt Ideal) ℓ
/-- A launch memory of the reference. -/
abbrev RMem := (ℓ : Loc Cert.ReferenceIdeal.nD Cert.ReferenceIdeal.τ Cert.ReferenceIdeal.sig) → Buf (Elt Ideal) ℓ

/-- The two memories hold the same arguments on device `c`. -/
abbrev Agree (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable (m : KMem) (m' : RMem) (c : Dev Cert.KernelIdeal.nD) (h : Agree m m' c)
include h

/-- Both read the same gradient. -/
theorem gradient_eq : Cert.ReferenceIdeal.Value.gradient m' c = Cert.KernelIdeal.Value.gradient m c :=
  (Cert.ReferenceIdeal.Value.V_gradient m' c).trans
    ((congrArg (fun X => shapeCast Cert.KernelIdeal.S32768x5120 X _) h.1).trans
      (Cert.KernelIdeal.Value.V_gradient m c).symm)

/-- Both read the same inputs. -/
theorem inputs_eq : Cert.ReferenceIdeal.Value.inputs m' c = Cert.KernelIdeal.Value.inputs m c :=
  (Cert.ReferenceIdeal.Value.V_inputs m' c).trans
    ((congrArg (fun X => shapeCast Cert.KernelIdeal.S32768x1280 X _) h.2.1).trans
      (Cert.KernelIdeal.Value.V_inputs m c).symm)

/-- Both read the same weights. -/
theorem weights_eq : (Cert.ReferenceIdeal.Gen.V m' c Cert.ReferenceIdeal.main_arg3 : FVec Ideal Cert.KernelIdeal.S1280x5120 .fp8e4m3)
    = Cert.KernelIdeal.Gen.V m c Cert.KernelIdeal.main_arg3 :=
  (Cert.ReferenceIdeal.Value.V_weights m' c).trans (h.2.2.2.1.trans (Cert.KernelIdeal.Value.V_weights m c).symm)

/-- Both find the same greatest entry of the history. -/
theorem top_eq : Cert.ReferenceIdeal.Value.top m' c = Cert.KernelIdeal.Value.top m c :=
  congrArg (fun X => Cert.KernelIdeal.Value.history X ix0) h.2.2.2.2.2

/-- Both compute the same inverse scale. -/
theorem inv_eq : Cert.ReferenceIdeal.Value.invScale m' c = Cert.KernelIdeal.Value.invScale m c := by
  rw [Cert.ReferenceIdeal.Value.inv_eq, Cert.KernelIdeal.Value.inv_eq, top_eq m m' c h]

/-- Both compute the same scale. -/
theorem scale_eq : (Cert.ReferenceIdeal.Gen.V m' c Cert.ReferenceIdeal.main_v36 : FVec Ideal Cert.KernelIdeal.S1 .f32)
    = Cert.KernelIdeal.Gen.V m c Cert.KernelIdeal.main_v30 := by
  funext i
  rw [Cert.ReferenceIdeal.Value.scale_eq, Cert.KernelIdeal.Value.scale_eq, top_eq m m' c h]

/-- Both multiply dx by the same factor. -/
theorem dxFactor_eq : Cert.ReferenceIdeal.Value.scale m' c * Cert.ReferenceIdeal.Value.wScale m' c
    = (Cert.KernelIdeal.Gen.V m c Cert.KernelIdeal.main_v31 : FVec Ideal Cert.KernelIdeal.S1 .f32) (ix1 0) := by
  have hw : Cert.ReferenceIdeal.Value.wScale m' c = Cert.KernelIdeal.Value.wScale m c :=
    congrArg (fun X : FVec Ideal Cert.KernelIdeal.S1 .f32 => X (ix1 0)) ((Cert.ReferenceIdeal.Value.V_wScale m' c).trans h.2.2.2.2.1)
  rw [Cert.KernelIdeal.Value.dxFactor_eq, hw, ← top_eq m m' c h, ← Cert.ReferenceIdeal.Value.scale_eq m' c (ix1 0)]

/-- Both multiply dw by the same factor. -/
theorem dwFactor_eq : Cert.ReferenceIdeal.Value.inScale m' c * Cert.ReferenceIdeal.Value.scale m' c
    = (Cert.KernelIdeal.Gen.V m c Cert.KernelIdeal.main_v32 : FVec Ideal Cert.KernelIdeal.S1 .f32) (ix1 0) := by
  have hw : Cert.ReferenceIdeal.Value.inScale m' c = Cert.KernelIdeal.Value.inScale m c :=
    congrArg (fun X : FVec Ideal Cert.KernelIdeal.S1 .f32 => X (ix1 0)) ((Cert.ReferenceIdeal.Value.V_inScale m' c).trans h.2.2.1)
  rw [Cert.KernelIdeal.Value.dwFactor_eq, hw, ← top_eq m m' c h, ← Cert.ReferenceIdeal.Value.scale_eq m' c (ix1 0)]

/-- The two dx. -/
theorem dx : (Cert.ReferenceIdeal.Gen.dats m' 0 c).arrAt 7 Cert.ReferenceIdeal.cfg0.N
    = (Cert.KernelIdeal.Gen.dats m 0 c).arrAt 6 Cert.KernelIdeal.cfg0.N := by
  refine (Cert.ReferenceIdeal.Value.dx_final m' c).trans (Eq.trans ?_ (Cert.KernelIdeal.Value.dx_final m c).symm)
  rw [gradient_eq m m' c h, inv_eq m m' c h, dxFactor_eq m m' c h, weights_eq m m' c h]

/-- The two dw. -/
theorem dw : (Cert.ReferenceIdeal.Gen.dats m' 0 c).arrAt 8 Cert.ReferenceIdeal.cfg0.N
    = (Cert.KernelIdeal.Gen.outsAt0 m c 63 Cert.KernelIdeal.Value.last_lt).2.2.2.2.2 := by
  refine (Cert.ReferenceIdeal.Value.dw_final m' c).trans (Eq.trans ?_ (Cert.KernelIdeal.Value.dw_final m c).symm)
  rw [gradient_eq m m' c h, inv_eq m m' c h, dwFactor_eq m m' c h, inputs_eq m m' c h]

/-- The two greatest magnitudes. -/
theorem amax : (Cert.ReferenceIdeal.Gen.dats m' 0 c).arrAt 9 Cert.ReferenceIdeal.cfg0.N
    = (Cert.KernelIdeal.Gen.dats m 0 c).arrAt 7 Cert.KernelIdeal.cfg0.N := by
  refine (Cert.ReferenceIdeal.Value.amax_final m' c).trans (Eq.trans ?_ (Cert.KernelIdeal.Value.amax_final m c).symm)
  refine funext fun _ => eq_of_forall_ge_iff fun b => ?_
  refine (Cert.ReferenceIdeal.Value.pay3_le _ b).trans (Iff.trans ?_ (Cert.KernelIdeal.Value.greatest_le m c b).symm)
  rw [gradient_eq m m' c h]
  refine ⟨fun g => ⟨(?_ : (0 : EReal) ≤ mag _).trans (g (ix2 0 0)), g⟩, fun g => g.2⟩
  rcases le_total 0 (Cert.KernelIdeal.Value.gradient m c (ix2 0 0) : EReal) with hx | hx
  · exact hx.trans (le_max_left _ _)
  · exact (EReal.neg_nonneg.mpr hx).trans (le_max_right _ _)

/-- The two arrays of codes. -/
theorem codes : (Cert.ReferenceIdeal.Gen.dats m' 0 c).arrAt 10 Cert.ReferenceIdeal.cfg0.N
    = (Cert.KernelIdeal.Gen.dats m 0 c).arrAt 8 Cert.KernelIdeal.cfg0.N := by
  refine (Cert.ReferenceIdeal.Value.codes_final m' c).trans (Eq.trans ?_ (Cert.KernelIdeal.Value.codes_final m c).symm)
  rw [gradient_eq m m' c h, inv_eq m m' c h]

end Cert.Equal
end
-- ==== Proof.lean ====
module

public import proofs.«01_k».proof.Defs
public import proofs.«01_k».proof.Proof.KernelFrame
public import proofs.«01_k».proof.Proof.IdealFrame
public import proofs.«01_k».proof.Proof.Gen.ReferenceIdeal.Value
public import proofs.«01_k».proof.Proof.Equal
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- After the reference's run the scale's buffer holds what the host lines computed: its window is only read. -/
theorem reference_scale (m : Cert.Equal.RMem) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v36)
          = Cert.ReferenceIdeal.Gen.V m c Cert.ReferenceIdeal.main_v36 :=
  (θ_run _ _ _).mono (fun r h c => ((h c).1 1).trans (((Cert.ReferenceIdeal.Gen.dats m 0 c).arrAt_in 1 rfl _).trans
    (Cert.ReferenceIdeal.Gen.A_eq m c 1))) (Cert.ReferenceIdeal.Gen.run_main m ρ)

/-- The kernel's five results are the reference's from memories that agree on the arguments. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => (Cert.KernelIdeal.Gen.dats m 0 c).arrAt 6 Cert.KernelIdeal.cfg0.N,
    fun c => (Cert.KernelIdeal.Gen.outsAt0 m c 63 Cert.KernelIdeal.Value.last_lt).2.2.2.2.2,
    fun c => (Cert.KernelIdeal.Gen.dats m 0 c).arrAt 7 Cert.KernelIdeal.cfg0.N,
    fun c => (Cert.KernelIdeal.Gen.dats m 0 c).arrAt 8 Cert.KernelIdeal.cfg0.N,
    fun c => Cert.KernelIdeal.Gen.V m c Cert.KernelIdeal.main_v30, ?_, ?_⟩
  · refine (θ_run _ _ _).mono (fun r hr c => ?_)
      (θ_run_and (Cert.KernelIdeal.Value.run_blocks m g) (Cert.KernelIdeal.Gen.unchanged m g))
    obtain ⟨h0, h1, h2, h3, h4⟩ := hr.1 c
    exact ⟨h0, h1, h2, h3, h4, hr.2 c⟩
  · refine (θ_run _ _ _).mono (fun r hr c => ?_)
      (θ_run_and (Cert.ReferenceIdeal.Value.run_blocks m' g') (reference_scale m' g'))
    obtain ⟨h0, h1, h2, h3, ha⟩ := hr.1 c
    exact ⟨h0.trans (Cert.Equal.dx m m' c (h c)), h1.trans (Cert.Equal.dw m m' c (h c)),
      h2.trans (Cert.Equal.amax m m' c (h c)), h3.trans (Cert.Equal.codes m m' c (h c)),
      (hr.2 c).trans (Cert.Equal.scale_eq m m' c (h c)), ha⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
